-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x4096 : Shape := ⟨2, ![1024, 4096]⟩
abbrev S1x1024x8x128 : Shape := ⟨4, ![1, 1024, 8, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  bcast_S_S1024x4096 : S_.BroadcastsInDim S1024x4096 (![] : Fin 0 → Fin S1024x4096.rank)
  bcast_S_S1x1024x8x128 : S_.BroadcastsInDim S1x1024x8x128 (![] : Fin 0 → Fin S1x1024x8x128.rank)

variable [Facts]

def fn {F : FTy → Type} [FloatOps F] (main_arg0 : FVec F S1x1024x1024 .bf16) (main_arg1 : FVec F S1024x4096 .bf16) (main_arg2 : FVec F S1x1024x8x128 .bf16) (main_arg3 : FVec F S1x1024x8x128 .bf16) (main_arg4 : FVec F S4096x1024 .bf16) : IVec S1x1024x1024 1 × IVec S1024x4096 1 × IVec S1x1024x8x128 1 :=
  let main_v0 : FVec F S1x1024x1024 .bf16 := Host.absf main_arg0
  let main_cst : FVec F S_ .bf16 := constant S_ .bf16 0x7F80#16
  let main_v1 : FVec F S1x1024x1024 .bf16 := broadcastInDim S1x1024x1024 ![] bcast_S_S1x1024x1024 main_cst
  let main_v2 : IVec S1x1024x1024 1 := cmpf .olt main_v0 main_v1
  let main_v3 : FVec F S1024x4096 .bf16 := Host.absf main_arg1
  let main_cst_0 : FVec F S_ .bf16 := constant S_ .bf16 0x7F80#16
  let main_v4 : FVec F S1024x4096 .bf16 := broadcastInDim S1024x4096 ![] bcast_S_S1024x4096 main_cst_0
  let main_v5 : IVec S1024x4096 1 := cmpf .olt main_v3 main_v4
  let main_v6 : FVec F S1x1024x8x128 .bf16 := Host.absf main_arg2
  let main_cst_1 : FVec F S_ .bf16 := constant S_ .bf16 0x7F80#16
  let main_v7 : FVec F S1x1024x8x128 .bf16 := broadcastInDim S1x1024x8x128 ![] bcast_S_S1x1024x8x128 main_cst_1
  let main_v8 : IVec S1x1024x8x128 1 := cmpf .olt main_v6 main_v7
  (main_v2, main_v5, main_v8)
-- ==== Pre_finite_ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  bcast_S_S1024x4096 : S_.BroadcastsInDim S1024x4096 (![] : Fin 0 → Fin S1024x4096.rank)
  bcast_S_S1x1024x32x128 : S_.BroadcastsInDim S1x1024x32x128 (![] : Fin 0 → Fin S1x1024x32x128.rank)

variable [Facts]

def fn {F : FTy → Type} [FloatOps F] (main_arg0 : FVec F S1x1024x1024 .bf16) (main_arg1 : FVec F S1024x4096 .bf16) (main_arg2 : FVec F S1x1024x32x128 .bf16) (main_arg3 : FVec F S1x1024x32x128 .bf16) (main_arg4 : FVec F S4096x1024 .bf16) : IVec S1x1024x1024 1 × IVec S1024x4096 1 × IVec S1x1024x32x128 1 :=
  let main_v0 : FVec F S1x1024x1024 .bf16 := Host.absf main_arg0
  let main_cst : FVec F S_ .bf16 := constant S_ .bf16 0x7F80#16
  let main_v1 : FVec F S1x1024x1024 .bf16 := broadcastInDim S1x1024x1024 ![] bcast_S_S1x1024x1024 main_cst
  let main_v2 : IVec S1x1024x1024 1 := cmpf .olt main_v0 main_v1
  let main_v3 : FVec F S1024x4096 .bf16 := Host.absf main_arg1
  let main_cst_0 : FVec F S_ .bf16 := constant S_ .bf16 0x7F80#16
  let main_v4 : FVec F S1024x4096 .bf16 := broadcastInDim S1024x4096 ![] bcast_S_S1024x4096 main_cst_0
  let main_v5 : IVec S1024x4096 1 := cmpf .olt main_v3 main_v4
  let main_v6 : FVec F S1x1024x32x128 .bf16 := Host.absf main_arg2
  let main_cst_1 : FVec F S_ .bf16 := constant S_ .bf16 0x7F80#16
  let main_v7 : FVec F S1x1024x32x128 .bf16 := broadcastInDim S1x1024x32x128 ![] bcast_S_S1x1024x32x128 main_cst_1
  let main_v8 : IVec S1x1024x32x128 1 := cmpf .olt main_v6 main_v7
  (main_v2, main_v5, main_v8)
-- ==== Kernel.lean ====
abbrev S1x1024x1024 : Shape := ⟨3, ![1, 1024, 1024]⟩
abbrev S1024x4096 : Shape := ⟨2, ![1024, 4096]⟩
abbrev S1x1024x8x128 : Shape := ⟨4, ![1, 1024, 8, 128]⟩
abbrev S4096x1024 : Shape := ⟨2, ![4096, 1024]⟩
abbrev S_ : Shape := ⟨0, ![]⟩
abbrev S1024x1024 : Shape := ⟨2, ![1024, 1024]⟩
abbrev S256x1024 : Shape := ⟨2, ![256, 1024]⟩
abbrev S4x128x1024 : Shape := ⟨3, ![4, 128, 1024]⟩
abbrev S6x128x1024 : Shape := ⟨3, ![6, 128, 1024]⟩
abbrev S6 : Shape := ⟨1, ![6]⟩
abbrev S256x512 : Shape := ⟨2, ![256, 512]⟩
abbrev S256x128 : Shape := ⟨2, ![256, 128]⟩
abbrev S512x128 : Shape := ⟨2, ![512, 128]⟩
abbrev S256 : Shape := ⟨1, ![256]⟩
abbrev S256x1 : Shape := ⟨2, ![256, 1]⟩
abbrev S128x1024 : Shape := ⟨2, ![128, 1024]⟩
abbrev S1x128x1024 : Shape := ⟨3, ![1, 128, 1024]⟩
abbrev S1 : Shape := ⟨1, ![1]⟩

abbrev nBuf : Space → Nat
  | .hbm => 33
  | .vmem => 13
  | .smem => 0
  | _ => 0

abbrev bufTy : (tb : Table) → Fin (tcTables nBuf tb) → BufTy
  | .hbm, ⟨0, _⟩ => ⟨S1x1024x1024, .bf16⟩
  | .hbm, ⟨1, _⟩ => ⟨S1024x4096, .bf16⟩
  | .hbm, ⟨2, _⟩ => ⟨S1x1024x8x128, .bf16⟩
  | .hbm, ⟨3, _⟩ => ⟨S1x1024x8x128, .bf16⟩
  | .hbm, ⟨4, _⟩ => ⟨S4096x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1024x1024, .bf16⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1024x1024, .bf16⟩
  | .hbm, ⟨30, _⟩ => ⟨S1024x1024, .bf16⟩
  | .hbm, ⟨31, _⟩ => ⟨S1024x1024, .bf16⟩
  | .hbm, ⟨32, _⟩ => ⟨S1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024x1024, .bf16⟩
  | .local _ .vmem, ⟨6, _⟩ => ⟨S1024x1024, .bf16⟩
  | .local _ .vmem, ⟨7, _⟩ => ⟨S256x1024, .bf16⟩
  | .local _ .vmem, ⟨8, _⟩ => ⟨S1024x1024, .f32⟩
  | .local _ .vmem, ⟨9, _⟩ => ⟨S4x128x1024, .bf16⟩
  | .local _ .vmem, ⟨10, _⟩ => ⟨S6x128x1024, .bf16⟩
  | .local _ .vmem, ⟨11, _⟩ => ⟨S4x128x1024, .bf16⟩
  | .local _ .vmem, ⟨12, _⟩ => ⟨S6x128x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_mult1 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  v20
def k0_mult2 (d0 : Dev nD) : BitVec 32 :=
  let c512_i32 : BitVec 32 := 512#32
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let c128_i32 : BitVec 32 := 128#32
  let v22 : BitVec 32 := Scalar.subi v21 c128_i32
  let v23 : BitVec 32 := Scalar.maxsi c0_i32 v22
  let v24 : BitVec 32 := Scalar.minsi c512_i32 v23
  v24
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let v34 : Index := Scalar.indexCast v21
  let c0_11 : Index := 0#32
  ![v34.toNat, 0]
def k0_off2 (d0 : Dev nD) : Fin 2 → Nat :=
  let c512_i32 : BitVec 32 := 512#32
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let c128_i32 : BitVec 32 := 128#32
  let v22 : BitVec 32 := Scalar.subi v21 c128_i32
  let v23 : BitVec 32 := Scalar.maxsi c0_i32 v22
  let v24 : BitVec 32 := Scalar.minsi c512_i32 v23
  let v25 : BitVec 32 := v24
  let v36 : Index := Scalar.indexCast v25
  let c0_12 : Index := 0#32
  ![v36.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let v62 : Index := Scalar.indexCast v21
  let c128 : Index := 128#32
  ![v62.toNat, 128]
def k0_off4 (d0 : Dev nD) : Fin 2 → Nat :=
  let c512_i32 : BitVec 32 := 512#32
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let c128_i32 : BitVec 32 := 128#32
  let v22 : BitVec 32 := Scalar.subi v21 c128_i32
  let v23 : BitVec 32 := Scalar.maxsi c0_i32 v22
  let v24 : BitVec 32 := Scalar.minsi c512_i32 v23
  let v25 : BitVec 32 := v24
  let v64 : Index := Scalar.indexCast v25
  let c128_22 : Index := 128#32
  ![v64.toNat, 128]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let v90 : Index := Scalar.indexCast v21
  let c256 : Index := 256#32
  ![v90.toNat, 256]
def k0_off6 (d0 : Dev nD) : Fin 2 → Nat :=
  let c512_i32 : BitVec 32 := 512#32
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let c128_i32 : BitVec 32 := 128#32
  let v22 : BitVec 32 := Scalar.subi v21 c128_i32
  let v23 : BitVec 32 := Scalar.maxsi c0_i32 v22
  let v24 : BitVec 32 := Scalar.minsi c512_i32 v23
  let v25 : BitVec 32 := v24
  let v92 : Index := Scalar.indexCast v25
  let c256_32 : Index := 256#32
  ![v92.toNat, 256]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let v118 : Index := Scalar.indexCast v21
  let c384 : Index := 384#32
  ![v118.toNat, 384]
def k0_off8 (d0 : Dev nD) : Fin 2 → Nat :=
  let c512_i32 : BitVec 32 := 512#32
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let c128_i32 : BitVec 32 := 128#32
  let v22 : BitVec 32 := Scalar.subi v21 c128_i32
  let v23 : BitVec 32 := Scalar.maxsi c0_i32 v22
  let v24 : BitVec 32 := Scalar.minsi c512_i32 v23
  let v25 : BitVec 32 := v24
  let v120 : Index := Scalar.indexCast v25
  let c384_42 : Index := 384#32
  ![v120.toNat, 384]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let v146 : Index := Scalar.indexCast v21
  let c512 : Index := 512#32
  ![v146.toNat, 512]
def k0_off10 (d0 : Dev nD) : Fin 2 → Nat :=
  let c512_i32 : BitVec 32 := 512#32
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let c128_i32 : BitVec 32 := 128#32
  let v22 : BitVec 32 := Scalar.subi v21 c128_i32
  let v23 : BitVec 32 := Scalar.maxsi c0_i32 v22
  let v24 : BitVec 32 := Scalar.minsi c512_i32 v23
  let v25 : BitVec 32 := v24
  let v148 : Index := Scalar.indexCast v25
  let c512_52 : Index := 512#32
  ![v148.toNat, 512]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let v174 : Index := Scalar.indexCast v21
  let c640 : Index := 640#32
  ![v174.toNat, 640]
def k0_off12 (d0 : Dev nD) : Fin 2 → Nat :=
  let c512_i32 : BitVec 32 := 512#32
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let c128_i32 : BitVec 32 := 128#32
  let v22 : BitVec 32 := Scalar.subi v21 c128_i32
  let v23 : BitVec 32 := Scalar.maxsi c0_i32 v22
  let v24 : BitVec 32 := Scalar.minsi c512_i32 v23
  let v25 : BitVec 32 := v24
  let v176 : Index := Scalar.indexCast v25
  let c640_62 : Index := 640#32
  ![v176.toNat, 640]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let v202 : Index := Scalar.indexCast v21
  let c768 : Index := 768#32
  ![v202.toNat, 768]
def k0_off14 (d0 : Dev nD) : Fin 2 → Nat :=
  let c512_i32 : BitVec 32 := 512#32
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let c128_i32 : BitVec 32 := 128#32
  let v22 : BitVec 32 := Scalar.subi v21 c128_i32
  let v23 : BitVec 32 := Scalar.maxsi c0_i32 v22
  let v24 : BitVec 32 := Scalar.minsi c512_i32 v23
  let v25 : BitVec 32 := v24
  let v204 : Index := Scalar.indexCast v25
  let c768_72 : Index := 768#32
  ![v204.toNat, 768]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let v230 : Index := Scalar.indexCast v21
  let c896 : Index := 896#32
  ![v230.toNat, 896]
def k0_off16 (d0 : Dev nD) : Fin 2 → Nat :=
  let c512_i32 : BitVec 32 := 512#32
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let c128_i32 : BitVec 32 := 128#32
  let v22 : BitVec 32 := Scalar.subi v21 c128_i32
  let v23 : BitVec 32 := Scalar.maxsi c0_i32 v22
  let v24 : BitVec 32 := Scalar.minsi c512_i32 v23
  let v25 : BitVec 32 := v24
  let v232 : Index := Scalar.indexCast v25
  let c896_82 : Index := 896#32
  ![v232.toNat, 896]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_8 : BitVec 32 := 4#32
  let v18 : BitVec 32 := Scalar.addi v2 c4_i32_8
  let c4_i32_9 : BitVec 32 := 4#32
  let v19 : BitVec 32 := Scalar.remsi v18 c4_i32_9
  let c256_i32 : BitVec 32 := 256#32
  let v20 : BitVec 32 := Scalar.muli v19 c256_i32
  let v21 : BitVec 32 := v20
  let v262 : Index := Scalar.indexCast v21
  let c0_97 : Index := 0#32
  ![v262.toNat, 0]
def k0_dev1 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_99 : BitVec 32 := 1#32
  let v267 : BitVec 32 := Scalar.muli v4 c1_i32_99
  let v268 : BitVec 32 := Scalar.addi c0_i32_100 v267
  v268.toNat
def k0_dev2 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_102 : BitVec 32 := 1#32
  let v269 : BitVec 32 := Scalar.muli v6 c1_i32_102
  let v270 : BitVec 32 := Scalar.addi c0_i32_103 v269
  v270.toNat
def k0_mult3 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_104 : BitVec 32 := 256#32
  let v271 : BitVec 32 := Scalar.muli v2 c256_i32_104
  v271
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_104 : BitVec 32 := 256#32
  let v271 : BitVec 32 := Scalar.muli v2 c256_i32_104
  let v272 : BitVec 32 := v271
  let v273 : Index := Scalar.indexCast v272
  let c0_105 : Index := 0#32
  ![v273.toNat, 0]
def k0_dev3 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_113 : BitVec 32 := 1#32
  let v279 : BitVec 32 := Scalar.muli v6 c1_i32_113
  let v280 : BitVec 32 := Scalar.addi c0_i32_114 v279
  v280.toNat
def k0_mult4 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_119 : BitVec 32 := 256#32
  let v289 : BitVec 32 := Scalar.muli v2 c256_i32_119
  let c128_i32_120 : BitVec 32 := 128#32
  let v290 : BitVec 32 := Scalar.addi v289 c128_i32_120
  v290
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_119 : BitVec 32 := 256#32
  let v289 : BitVec 32 := Scalar.muli v2 c256_i32_119
  let c128_i32_120 : BitVec 32 := 128#32
  let v290 : BitVec 32 := Scalar.addi v289 c128_i32_120
  let v291 : BitVec 32 := v290
  let v292 : Index := Scalar.indexCast v291
  let c0_121 : Index := 0#32
  ![v292.toNat, 0]
def k0_dev4 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_129 : BitVec 32 := 1#32
  let v298 : BitVec 32 := Scalar.muli v4 c1_i32_129
  let v299 : BitVec 32 := Scalar.addi c0_i32_130 v298
  v299.toNat
def k0_mult5 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_135 : BitVec 32 := 1#32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  v311
def k0_mult6 (d0 : Dev nD) : BitVec 32 :=
  let c512_i32_141 : BitVec 32 := 512#32
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_135 : BitVec 32 := 1#32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let c128_i32_139 : BitVec 32 := 128#32
  let v313 : BitVec 32 := Scalar.subi v312 c128_i32_139
  let v314 : BitVec 32 := Scalar.maxsi c0_i32_140 v313
  let v315 : BitVec 32 := Scalar.minsi c512_i32_141 v314
  v315
def k0_off20 (d0 : Dev nD) (c1_i32_135 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let v325 : Index := Scalar.indexCast v312
  let c0_143 : Index := 0#32
  ![v325.toNat, 0]
def k0_off21 (d0 : Dev nD) (c1_i32_135 : BitVec 32) : Fin 2 → Nat :=
  let c512_i32_141 : BitVec 32 := 512#32
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let c128_i32_139 : BitVec 32 := 128#32
  let v313 : BitVec 32 := Scalar.subi v312 c128_i32_139
  let v314 : BitVec 32 := Scalar.maxsi c0_i32_140 v313
  let v315 : BitVec 32 := Scalar.minsi c512_i32_141 v314
  let v316 : BitVec 32 := v315
  let v327 : Index := Scalar.indexCast v316
  let c0_144 : Index := 0#32
  ![v327.toNat, 0]
def k0_off22 (d0 : Dev nD) (c1_i32_135 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let v353 : Index := Scalar.indexCast v312
  let c128_154 : Index := 128#32
  ![v353.toNat, 128]
def k0_off23 (d0 : Dev nD) (c1_i32_135 : BitVec 32) : Fin 2 → Nat :=
  let c512_i32_141 : BitVec 32 := 512#32
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let c128_i32_139 : BitVec 32 := 128#32
  let v313 : BitVec 32 := Scalar.subi v312 c128_i32_139
  let v314 : BitVec 32 := Scalar.maxsi c0_i32_140 v313
  let v315 : BitVec 32 := Scalar.minsi c512_i32_141 v314
  let v316 : BitVec 32 := v315
  let v355 : Index := Scalar.indexCast v316
  let c128_155 : Index := 128#32
  ![v355.toNat, 128]
def k0_off24 (d0 : Dev nD) (c1_i32_135 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let v381 : Index := Scalar.indexCast v312
  let c256_165 : Index := 256#32
  ![v381.toNat, 256]
def k0_off25 (d0 : Dev nD) (c1_i32_135 : BitVec 32) : Fin 2 → Nat :=
  let c512_i32_141 : BitVec 32 := 512#32
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let c128_i32_139 : BitVec 32 := 128#32
  let v313 : BitVec 32 := Scalar.subi v312 c128_i32_139
  let v314 : BitVec 32 := Scalar.maxsi c0_i32_140 v313
  let v315 : BitVec 32 := Scalar.minsi c512_i32_141 v314
  let v316 : BitVec 32 := v315
  let v383 : Index := Scalar.indexCast v316
  let c256_166 : Index := 256#32
  ![v383.toNat, 256]
def k0_off26 (d0 : Dev nD) (c1_i32_135 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let v409 : Index := Scalar.indexCast v312
  let c384_176 : Index := 384#32
  ![v409.toNat, 384]
def k0_off27 (d0 : Dev nD) (c1_i32_135 : BitVec 32) : Fin 2 → Nat :=
  let c512_i32_141 : BitVec 32 := 512#32
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let c128_i32_139 : BitVec 32 := 128#32
  let v313 : BitVec 32 := Scalar.subi v312 c128_i32_139
  let v314 : BitVec 32 := Scalar.maxsi c0_i32_140 v313
  let v315 : BitVec 32 := Scalar.minsi c512_i32_141 v314
  let v316 : BitVec 32 := v315
  let v411 : Index := Scalar.indexCast v316
  let c384_177 : Index := 384#32
  ![v411.toNat, 384]
def k0_off28 (d0 : Dev nD) (c1_i32_135 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let v437 : Index := Scalar.indexCast v312
  let c512_187 : Index := 512#32
  ![v437.toNat, 512]
def k0_off29 (d0 : Dev nD) (c1_i32_135 : BitVec 32) : Fin 2 → Nat :=
  let c512_i32_141 : BitVec 32 := 512#32
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let c128_i32_139 : BitVec 32 := 128#32
  let v313 : BitVec 32 := Scalar.subi v312 c128_i32_139
  let v314 : BitVec 32 := Scalar.maxsi c0_i32_140 v313
  let v315 : BitVec 32 := Scalar.minsi c512_i32_141 v314
  let v316 : BitVec 32 := v315
  let v439 : Index := Scalar.indexCast v316
  let c512_188 : Index := 512#32
  ![v439.toNat, 512]
def k0_off30 (d0 : Dev nD) (c1_i32_135 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let v465 : Index := Scalar.indexCast v312
  let c640_198 : Index := 640#32
  ![v465.toNat, 640]
def k0_off31 (d0 : Dev nD) (c1_i32_135 : BitVec 32) : Fin 2 → Nat :=
  let c512_i32_141 : BitVec 32 := 512#32
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let c128_i32_139 : BitVec 32 := 128#32
  let v313 : BitVec 32 := Scalar.subi v312 c128_i32_139
  let v314 : BitVec 32 := Scalar.maxsi c0_i32_140 v313
  let v315 : BitVec 32 := Scalar.minsi c512_i32_141 v314
  let v316 : BitVec 32 := v315
  let v467 : Index := Scalar.indexCast v316
  let c640_199 : Index := 640#32
  ![v467.toNat, 640]
def k0_off32 (d0 : Dev nD) (c1_i32_135 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let v493 : Index := Scalar.indexCast v312
  let c768_209 : Index := 768#32
  ![v493.toNat, 768]
def k0_off33 (d0 : Dev nD) (c1_i32_135 : BitVec 32) : Fin 2 → Nat :=
  let c512_i32_141 : BitVec 32 := 512#32
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let c128_i32_139 : BitVec 32 := 128#32
  let v313 : BitVec 32 := Scalar.subi v312 c128_i32_139
  let v314 : BitVec 32 := Scalar.maxsi c0_i32_140 v313
  let v315 : BitVec 32 := Scalar.minsi c512_i32_141 v314
  let v316 : BitVec 32 := v315
  let v495 : Index := Scalar.indexCast v316
  let c768_210 : Index := 768#32
  ![v495.toNat, 768]
def k0_off34 (d0 : Dev nD) (c1_i32_135 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let v521 : Index := Scalar.indexCast v312
  let c896_220 : Index := 896#32
  ![v521.toNat, 896]
def k0_off35 (d0 : Dev nD) (c1_i32_135 : BitVec 32) : Fin 2 → Nat :=
  let c512_i32_141 : BitVec 32 := 512#32
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let c128_i32_139 : BitVec 32 := 128#32
  let v313 : BitVec 32 := Scalar.subi v312 c128_i32_139
  let v314 : BitVec 32 := Scalar.maxsi c0_i32_140 v313
  let v315 : BitVec 32 := Scalar.minsi c512_i32_141 v314
  let v316 : BitVec 32 := v315
  let v523 : Index := Scalar.indexCast v316
  let c896_221 : Index := 896#32
  ![v523.toNat, 896]
def k0_off36 (d0 : Dev nD) (c1_i32_135 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v308 : BitVec 32 := Scalar.subi v2 c1_i32_135
  let c4_i32_136 : BitVec 32 := 4#32
  let v309 : BitVec 32 := Scalar.addi v308 c4_i32_136
  let c4_i32_137 : BitVec 32 := 4#32
  let v310 : BitVec 32 := Scalar.remsi v309 c4_i32_137
  let c256_i32_138 : BitVec 32 := 256#32
  let v311 : BitVec 32 := Scalar.muli v310 c256_i32_138
  let v312 : BitVec 32 := v311
  let v553 : Index := Scalar.indexCast v312
  let c0_236 : Index := 0#32
  ![v553.toNat, 0]
def k0_mult7 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  v560
def k0_mult8 (d0 : Dev nD) : BitVec 32 :=
  let c512_i32_243 : BitVec 32 := 512#32
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let c128_i32_241 : BitVec 32 := 128#32
  let v562 : BitVec 32 := Scalar.subi v561 c128_i32_241
  let v563 : BitVec 32 := Scalar.maxsi c0_i32_242 v562
  let v564 : BitVec 32 := Scalar.minsi c512_i32_243 v563
  v564
def k0_off37 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let v574 : Index := Scalar.indexCast v561
  let c0_245 : Index := 0#32
  ![v574.toNat, 0]
def k0_off38 (d0 : Dev nD) : Fin 2 → Nat :=
  let c512_i32_243 : BitVec 32 := 512#32
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let c128_i32_241 : BitVec 32 := 128#32
  let v562 : BitVec 32 := Scalar.subi v561 c128_i32_241
  let v563 : BitVec 32 := Scalar.maxsi c0_i32_242 v562
  let v564 : BitVec 32 := Scalar.minsi c512_i32_243 v563
  let v565 : BitVec 32 := v564
  let v576 : Index := Scalar.indexCast v565
  let c0_246 : Index := 0#32
  ![v576.toNat, 0]
def k0_off39 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let v602 : Index := Scalar.indexCast v561
  let c128_256 : Index := 128#32
  ![v602.toNat, 128]
def k0_off40 (d0 : Dev nD) : Fin 2 → Nat :=
  let c512_i32_243 : BitVec 32 := 512#32
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let c128_i32_241 : BitVec 32 := 128#32
  let v562 : BitVec 32 := Scalar.subi v561 c128_i32_241
  let v563 : BitVec 32 := Scalar.maxsi c0_i32_242 v562
  let v564 : BitVec 32 := Scalar.minsi c512_i32_243 v563
  let v565 : BitVec 32 := v564
  let v604 : Index := Scalar.indexCast v565
  let c128_257 : Index := 128#32
  ![v604.toNat, 128]
def k0_off41 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let v630 : Index := Scalar.indexCast v561
  let c256_267 : Index := 256#32
  ![v630.toNat, 256]
def k0_off42 (d0 : Dev nD) : Fin 2 → Nat :=
  let c512_i32_243 : BitVec 32 := 512#32
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let c128_i32_241 : BitVec 32 := 128#32
  let v562 : BitVec 32 := Scalar.subi v561 c128_i32_241
  let v563 : BitVec 32 := Scalar.maxsi c0_i32_242 v562
  let v564 : BitVec 32 := Scalar.minsi c512_i32_243 v563
  let v565 : BitVec 32 := v564
  let v632 : Index := Scalar.indexCast v565
  let c256_268 : Index := 256#32
  ![v632.toNat, 256]
def k0_off43 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let v658 : Index := Scalar.indexCast v561
  let c384_278 : Index := 384#32
  ![v658.toNat, 384]
def k0_off44 (d0 : Dev nD) : Fin 2 → Nat :=
  let c512_i32_243 : BitVec 32 := 512#32
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let c128_i32_241 : BitVec 32 := 128#32
  let v562 : BitVec 32 := Scalar.subi v561 c128_i32_241
  let v563 : BitVec 32 := Scalar.maxsi c0_i32_242 v562
  let v564 : BitVec 32 := Scalar.minsi c512_i32_243 v563
  let v565 : BitVec 32 := v564
  let v660 : Index := Scalar.indexCast v565
  let c384_279 : Index := 384#32
  ![v660.toNat, 384]
def k0_off45 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let v686 : Index := Scalar.indexCast v561
  let c512_289 : Index := 512#32
  ![v686.toNat, 512]
def k0_off46 (d0 : Dev nD) : Fin 2 → Nat :=
  let c512_i32_243 : BitVec 32 := 512#32
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let c128_i32_241 : BitVec 32 := 128#32
  let v562 : BitVec 32 := Scalar.subi v561 c128_i32_241
  let v563 : BitVec 32 := Scalar.maxsi c0_i32_242 v562
  let v564 : BitVec 32 := Scalar.minsi c512_i32_243 v563
  let v565 : BitVec 32 := v564
  let v688 : Index := Scalar.indexCast v565
  let c512_290 : Index := 512#32
  ![v688.toNat, 512]
def k0_off47 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let v714 : Index := Scalar.indexCast v561
  let c640_300 : Index := 640#32
  ![v714.toNat, 640]
def k0_off48 (d0 : Dev nD) : Fin 2 → Nat :=
  let c512_i32_243 : BitVec 32 := 512#32
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let c128_i32_241 : BitVec 32 := 128#32
  let v562 : BitVec 32 := Scalar.subi v561 c128_i32_241
  let v563 : BitVec 32 := Scalar.maxsi c0_i32_242 v562
  let v564 : BitVec 32 := Scalar.minsi c512_i32_243 v563
  let v565 : BitVec 32 := v564
  let v716 : Index := Scalar.indexCast v565
  let c640_301 : Index := 640#32
  ![v716.toNat, 640]
def k0_off49 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let v742 : Index := Scalar.indexCast v561
  let c768_311 : Index := 768#32
  ![v742.toNat, 768]
def k0_off50 (d0 : Dev nD) : Fin 2 → Nat :=
  let c512_i32_243 : BitVec 32 := 512#32
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let c128_i32_241 : BitVec 32 := 128#32
  let v562 : BitVec 32 := Scalar.subi v561 c128_i32_241
  let v563 : BitVec 32 := Scalar.maxsi c0_i32_242 v562
  let v564 : BitVec 32 := Scalar.minsi c512_i32_243 v563
  let v565 : BitVec 32 := v564
  let v744 : Index := Scalar.indexCast v565
  let c768_312 : Index := 768#32
  ![v744.toNat, 768]
def k0_off51 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let v770 : Index := Scalar.indexCast v561
  let c896_322 : Index := 896#32
  ![v770.toNat, 896]
def k0_off52 (d0 : Dev nD) : Fin 2 → Nat :=
  let c512_i32_243 : BitVec 32 := 512#32
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let c128_i32_241 : BitVec 32 := 128#32
  let v562 : BitVec 32 := Scalar.subi v561 c128_i32_241
  let v563 : BitVec 32 := Scalar.maxsi c0_i32_242 v562
  let v564 : BitVec 32 := Scalar.minsi c512_i32_243 v563
  let v565 : BitVec 32 := v564
  let v772 : Index := Scalar.indexCast v565
  let c896_323 : Index := 896#32
  ![v772.toNat, 896]
def k0_off53 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_237 : BitVec 32 := 1#32
  let v557 : BitVec 32 := Scalar.addi v2 c1_i32_237
  let c4_i32_238 : BitVec 32 := 4#32
  let v558 : BitVec 32 := Scalar.addi v557 c4_i32_238
  let c4_i32_239 : BitVec 32 := 4#32
  let v559 : BitVec 32 := Scalar.remsi v558 c4_i32_239
  let c256_i32_240 : BitVec 32 := 256#32
  let v560 : BitVec 32 := Scalar.muli v559 c256_i32_240
  let v561 : BitVec 32 := v560
  let v802 : Index := Scalar.indexCast v561
  let c0_338 : Index := 0#32
  ![v802.toNat, 0]
def k0_mult9 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_339 : BitVec 32 := 1#32
  let v806 : BitVec 32 := Scalar.subi v2 c1_i32_339
  let c8_i32 : BitVec 32 := 8#32
  let v807 : BitVec 32 := Scalar.addi v806 c8_i32
  let c4_i32_340 : BitVec 32 := 4#32
  let v808 : BitVec 32 := Scalar.remsi v807 c4_i32_340
  let c256_i32_381 : BitVec 32 := 256#32
  let v839 : BitVec 32 := Scalar.muli v808 c256_i32_381
  v839
def k0_off54 (d0 : Dev nD) (c1_i32_339 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v806 : BitVec 32 := Scalar.subi v2 c1_i32_339
  let c8_i32 : BitVec 32 := 8#32
  let v807 : BitVec 32 := Scalar.addi v806 c8_i32
  let c4_i32_340 : BitVec 32 := 4#32
  let v808 : BitVec 32 := Scalar.remsi v807 c4_i32_340
  let c256_i32_381 : BitVec 32 := 256#32
  let v839 : BitVec 32 := Scalar.muli v808 c256_i32_381
  let v840 : BitVec 32 := v839
  let v841 : Index := Scalar.indexCast v840
  let c0_382 : Index := 0#32
  ![v841.toNat, 0]
def k0_dev5 (d0 : Dev nD) : Nat :=
  let c0_i32_393 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_392 : BitVec 32 := 1#32
  let v851 : BitVec 32 := Scalar.muli v6 c1_i32_392
  let v852 : BitVec 32 := Scalar.addi c0_i32_393 v851
  v852.toNat
def k0_mult10 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_341 : BitVec 32 := 1#32
  let v809 : BitVec 32 := Scalar.addi v2 c1_i32_341
  let c4_i32_342 : BitVec 32 := 4#32
  let v810 : BitVec 32 := Scalar.remsi v809 c4_i32_342
  let c256_i32_398 : BitVec 32 := 256#32
  let v861 : BitVec 32 := Scalar.muli v810 c256_i32_398
  let c128_i32_399 : BitVec 32 := 128#32
  let v862 : BitVec 32 := Scalar.addi v861 c128_i32_399
  v862
def k0_off55 (d0 : Dev nD) (c1_i32_341 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v809 : BitVec 32 := Scalar.addi v2 c1_i32_341
  let c4_i32_342 : BitVec 32 := 4#32
  let v810 : BitVec 32 := Scalar.remsi v809 c4_i32_342
  let c256_i32_398 : BitVec 32 := 256#32
  let v861 : BitVec 32 := Scalar.muli v810 c256_i32_398
  let c128_i32_399 : BitVec 32 := 128#32
  let v862 : BitVec 32 := Scalar.addi v861 c128_i32_399
  let v863 : BitVec 32 := v862
  let v864 : Index := Scalar.indexCast v863
  let c0_400 : Index := 0#32
  ![v864.toNat, 0]
def k0_dev6 (d0 : Dev nD) : Nat :=
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_411 : BitVec 32 := 1#32
  let v874 : BitVec 32 := Scalar.muli v4 c1_i32_411
  let v875 : BitVec 32 := Scalar.addi c0_i32_412 v874
  v875.toNat
def k0_mult11 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_417 : BitVec 32 := 2#32
  let v884 : BitVec 32 := Scalar.subi v2 c2_i32_417
  let c4_i32_418 : BitVec 32 := 4#32
  let v885 : BitVec 32 := Scalar.addi v884 c4_i32_418
  let c4_i32_419 : BitVec 32 := 4#32
  let v886 : BitVec 32 := Scalar.remsi v885 c4_i32_419
  let c256_i32_420 : BitVec 32 := 256#32
  let v887 : BitVec 32 := Scalar.muli v886 c256_i32_420
  v887
def k0_mult12 (d0 : Dev nD) : BitVec 32 :=
  let c512_i32_423 : BitVec 32 := 512#32
  let c0_i32_422 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_417 : BitVec 32 := 2#32
  let v884 : BitVec 32 := Scalar.subi v2 c2_i32_417
  let c4_i32_418 : BitVec 32 := 4#32
  let v885 : BitVec 32 := Scalar.addi v884 c4_i32_418
  let c4_i32_419 : BitVec 32 := 4#32
  let v886 : BitVec 32 := Scalar.remsi v885 c4_i32_419
  let c256_i32_420 : BitVec 32 := 256#32
  let v887 : BitVec 32 := Scalar.muli v886 c256_i32_420
  let v888 : BitVec 32 := v887
  let c128_i32_421 : BitVec 32 := 128#32
  let v889 : BitVec 32 := Scalar.subi v888 c128_i32_421
  let v890 : BitVec 32 := Scalar.maxsi c0_i32_422 v889
  let v891 : BitVec 32 := Scalar.minsi c512_i32_423 v890
  v891
def k0_mult13 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_519 : BitVec 32 := 2#32
  let v1133 : BitVec 32 := Scalar.subi v2 c2_i32_519
  let c8_i32_520 : BitVec 32 := 8#32
  let v1134 : BitVec 32 := Scalar.addi v1133 c8_i32_520
  let c4_i32_521 : BitVec 32 := 4#32
  let v1135 : BitVec 32 := Scalar.remsi v1134 c4_i32_521
  let c256_i32_562 : BitVec 32 := 256#32
  let v1166 : BitVec 32 := Scalar.muli v1135 c256_i32_562
  v1166
def k0_dev7 (d0 : Dev nD) : Nat :=
  let c0_i32_574 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_573 : BitVec 32 := 1#32
  let v1178 : BitVec 32 := Scalar.muli v6 c1_i32_573
  let v1179 : BitVec 32 := Scalar.addi c0_i32_574 v1178
  v1179.toNat
def k0_mult14 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_522 : BitVec 32 := 2#32
  let v1136 : BitVec 32 := Scalar.addi v2 c2_i32_522
  let c4_i32_523 : BitVec 32 := 4#32
  let v1137 : BitVec 32 := Scalar.remsi v1136 c4_i32_523
  let c256_i32_579 : BitVec 32 := 256#32
  let v1188 : BitVec 32 := Scalar.muli v1137 c256_i32_579
  let c128_i32_580 : BitVec 32 := 128#32
  let v1189 : BitVec 32 := Scalar.addi v1188 c128_i32_580
  v1189
def k0_dev8 (d0 : Dev nD) : Nat :=
  let c0_i32_593 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_592 : BitVec 32 := 1#32
  let v1201 : BitVec 32 := Scalar.muli v4 c1_i32_592
  let v1202 : BitVec 32 := Scalar.addi c0_i32_593 v1201
  v1202.toNat
def k0_mult15 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_636 : BitVec 32 := 1#32
  let v1239 : BitVec 32 := Scalar.addi v2 c1_i32_636
  let c4_i32_637 : BitVec 32 := 4#32
  let v1240 : BitVec 32 := Scalar.remsi v1239 c4_i32_637
  let c256_i32_638 : BitVec 32 := 256#32
  let v1241 : BitVec 32 := Scalar.muli v1240 c256_i32_638
  v1241
def k0_off56 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_636 : BitVec 32 := 1#32
  let v1239 : BitVec 32 := Scalar.addi v2 c1_i32_636
  let c4_i32_637 : BitVec 32 := 4#32
  let v1240 : BitVec 32 := Scalar.remsi v1239 c4_i32_637
  let c256_i32_638 : BitVec 32 := 256#32
  let v1241 : BitVec 32 := Scalar.muli v1240 c256_i32_638
  let v1242 : BitVec 32 := v1241
  let v1243 : Index := Scalar.indexCast v1242
  let c0_639 : Index := 0#32
  ![v1243.toNat, 0]
def k0_dev9 (d0 : Dev nD) : Nat :=
  let c0_i32_650 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_649 : BitVec 32 := 1#32
  let v1253 : BitVec 32 := Scalar.muli v6 c1_i32_649
  let v1254 : BitVec 32 := Scalar.addi c0_i32_650 v1253
  v1254.toNat
def k0_mult16 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_655 : BitVec 32 := 4#32
  let v1263 : BitVec 32 := Scalar.addi v2 c4_i32_655
  let c1_i32_656 : BitVec 32 := 1#32
  let v1264 : BitVec 32 := Scalar.subi v1263 c1_i32_656
  let c4_i32_657 : BitVec 32 := 4#32
  let v1265 : BitVec 32 := Scalar.remsi v1264 c4_i32_657
  let c256_i32_658 : BitVec 32 := 256#32
  let v1266 : BitVec 32 := Scalar.muli v1265 c256_i32_658
  let c128_i32_659 : BitVec 32 := 128#32
  let v1267 : BitVec 32 := Scalar.addi v1266 c128_i32_659
  v1267
def k0_off57 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_655 : BitVec 32 := 4#32
  let v1263 : BitVec 32 := Scalar.addi v2 c4_i32_655
  let c1_i32_656 : BitVec 32 := 1#32
  let v1264 : BitVec 32 := Scalar.subi v1263 c1_i32_656
  let c4_i32_657 : BitVec 32 := 4#32
  let v1265 : BitVec 32 := Scalar.remsi v1264 c4_i32_657
  let c256_i32_658 : BitVec 32 := 256#32
  let v1266 : BitVec 32 := Scalar.muli v1265 c256_i32_658
  let c128_i32_659 : BitVec 32 := 128#32
  let v1267 : BitVec 32 := Scalar.addi v1266 c128_i32_659
  let v1268 : BitVec 32 := v1267
  let v1269 : Index := Scalar.indexCast v1268
  let c0_660 : Index := 0#32
  ![v1269.toNat, 0]
def k0_dev10 (d0 : Dev nD) : Nat :=
  let c0_i32_672 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_671 : BitVec 32 := 1#32
  let v1279 : BitVec 32 := Scalar.muli v4 c1_i32_671
  let v1280 : BitVec 32 := Scalar.addi c0_i32_672 v1279
  v1280.toNat
def k0_mult17 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_636 : BitVec 32 := 1#32
  let v1239 : BitVec 32 := Scalar.addi v2 c1_i32_636
  let c4_i32_637 : BitVec 32 := 4#32
  let v1240 : BitVec 32 := Scalar.remsi v1239 c4_i32_637
  let c256_i32_677 : BitVec 32 := 256#32
  let v1289 : BitVec 32 := Scalar.muli v1240 c256_i32_677
  v1289
def k0_off58 (d0 : Dev nD) : Fin 3 → Nat :=
  let c0_678 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_636 : BitVec 32 := 1#32
  let v1239 : BitVec 32 := Scalar.addi v2 c1_i32_636
  let c4_i32_637 : BitVec 32 := 4#32
  let v1240 : BitVec 32 := Scalar.remsi v1239 c4_i32_637
  let c256_i32_677 : BitVec 32 := 256#32
  let v1289 : BitVec 32 := Scalar.muli v1240 c256_i32_677
  let v1290 : BitVec 32 := v1289
  let v1291 : Index := Scalar.indexCast v1290
  let c0_679 : Index := 0#32
  ![0, v1291.toNat, 0]
def k0_mult18 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_655 : BitVec 32 := 4#32
  let v1263 : BitVec 32 := Scalar.addi v2 c4_i32_655
  let c1_i32_656 : BitVec 32 := 1#32
  let v1264 : BitVec 32 := Scalar.subi v1263 c1_i32_656
  let c4_i32_657 : BitVec 32 := 4#32
  let v1265 : BitVec 32 := Scalar.remsi v1264 c4_i32_657
  let c256_i32_680 : BitVec 32 := 256#32
  let v1295 : BitVec 32 := Scalar.muli v1265 c256_i32_680
  let c128_i32_681 : BitVec 32 := 128#32
  let v1296 : BitVec 32 := Scalar.addi v1295 c128_i32_681
  v1296
def k0_off59 (d0 : Dev nD) : Fin 3 → Nat :=
  let c0_682 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_655 : BitVec 32 := 4#32
  let v1263 : BitVec 32 := Scalar.addi v2 c4_i32_655
  let c1_i32_656 : BitVec 32 := 1#32
  let v1264 : BitVec 32 := Scalar.subi v1263 c1_i32_656
  let c4_i32_657 : BitVec 32 := 4#32
  let v1265 : BitVec 32 := Scalar.remsi v1264 c4_i32_657
  let c256_i32_680 : BitVec 32 := 256#32
  let v1295 : BitVec 32 := Scalar.muli v1265 c256_i32_680
  let c128_i32_681 : BitVec 32 := 128#32
  let v1296 : BitVec 32 := Scalar.addi v1295 c128_i32_681
  let v1297 : BitVec 32 := v1296
  let v1298 : Index := Scalar.indexCast v1297
  let c0_683 : Index := 0#32
  ![0, v1298.toNat, 0]
def k0_dev11 (d0 : Dev nD) : Nat :=
  let c0_i32_708 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_707 : BitVec 32 := 1#32
  let v1316 : BitVec 32 := Scalar.muli v6 c1_i32_707
  let v1317 : BitVec 32 := Scalar.addi c0_i32_708 v1316
  v1317.toNat
def k0_dev12 (d0 : Dev nD) : Nat :=
  let c0_i32_737 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_736 : BitVec 32 := 1#32
  let v1340 : BitVec 32 := Scalar.muli v4 c1_i32_736
  let v1341 : BitVec 32 := Scalar.addi c0_i32_737 v1340
  v1341.toNat
def k0_mult19 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_742 : BitVec 32 := 0#32
  let v1350 : BitVec 32 := Scalar.subi v2 c0_i32_742
  let c8_i32_743 : BitVec 32 := 8#32
  let v1351 : BitVec 32 := Scalar.addi v1350 c8_i32_743
  let c4_i32_744 : BitVec 32 := 4#32
  let v1352 : BitVec 32 := Scalar.remsi v1351 c4_i32_744
  let c256_i32_750 : BitVec 32 := 256#32
  let v1357 : BitVec 32 := Scalar.muli v1352 c256_i32_750
  v1357
def k0_off60 (d0 : Dev nD) (c0_i32_742 : BitVec 32) : Fin 3 → Nat :=
  let c0_751 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1350 : BitVec 32 := Scalar.subi v2 c0_i32_742
  let c8_i32_743 : BitVec 32 := 8#32
  let v1351 : BitVec 32 := Scalar.addi v1350 c8_i32_743
  let c4_i32_744 : BitVec 32 := 4#32
  let v1352 : BitVec 32 := Scalar.remsi v1351 c4_i32_744
  let c256_i32_750 : BitVec 32 := 256#32
  let v1357 : BitVec 32 := Scalar.muli v1352 c256_i32_750
  let v1358 : BitVec 32 := v1357
  let v1359 : Index := Scalar.indexCast v1358
  let c0_752 : Index := 0#32
  ![0, v1359.toNat, 0]
def k0_mult20 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_745 : BitVec 32 := 0#32
  let v1353 : BitVec 32 := Scalar.addi v2 c0_i32_745
  let c4_i32_746 : BitVec 32 := 4#32
  let v1354 : BitVec 32 := Scalar.remsi v1353 c4_i32_746
  let c256_i32_756 : BitVec 32 := 256#32
  let v1365 : BitVec 32 := Scalar.muli v1354 c256_i32_756
  let c128_i32_757 : BitVec 32 := 128#32
  let v1366 : BitVec 32 := Scalar.addi v1365 c128_i32_757
  v1366
def k0_off61 (d0 : Dev nD) (c0_i32_745 : BitVec 32) : Fin 3 → Nat :=
  let c0_758 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1353 : BitVec 32 := Scalar.addi v2 c0_i32_745
  let c4_i32_746 : BitVec 32 := 4#32
  let v1354 : BitVec 32 := Scalar.remsi v1353 c4_i32_746
  let c256_i32_756 : BitVec 32 := 256#32
  let v1365 : BitVec 32 := Scalar.muli v1354 c256_i32_756
  let c128_i32_757 : BitVec 32 := 128#32
  let v1366 : BitVec 32 := Scalar.addi v1365 c128_i32_757
  let v1367 : BitVec 32 := v1366
  let v1368 : Index := Scalar.indexCast v1367
  let c0_759 : Index := 0#32
  ![0, v1368.toNat, 0]
def k0_dev13 (d0 : Dev nD) : Nat :=
  let c0_i32_783 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_782 : BitVec 32 := 1#32
  let v1386 : BitVec 32 := Scalar.muli v6 c1_i32_782
  let v1387 : BitVec 32 := Scalar.addi c0_i32_783 v1386
  v1387.toNat
def k0_dev14 (d0 : Dev nD) : Nat :=
  let c0_i32_812 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_811 : BitVec 32 := 1#32
  let v1410 : BitVec 32 := Scalar.muli v4 c1_i32_811
  let v1411 : BitVec 32 := Scalar.addi c0_i32_812 v1410
  v1411.toNat
def k0_mult21 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_817 : BitVec 32 := 1#32
  let v1420 : BitVec 32 := Scalar.subi v2 c1_i32_817
  let c8_i32_818 : BitVec 32 := 8#32
  let v1421 : BitVec 32 := Scalar.addi v1420 c8_i32_818
  let c4_i32_819 : BitVec 32 := 4#32
  let v1422 : BitVec 32 := Scalar.remsi v1421 c4_i32_819
  let c256_i32_824 : BitVec 32 := 256#32
  let v1427 : BitVec 32 := Scalar.muli v1422 c256_i32_824
  v1427
def k0_mult22 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_820 : BitVec 32 := 1#32
  let v1423 : BitVec 32 := Scalar.addi v2 c1_i32_820
  let c4_i32_821 : BitVec 32 := 4#32
  let v1424 : BitVec 32 := Scalar.remsi v1423 c4_i32_821
  let c256_i32_830 : BitVec 32 := 256#32
  let v1435 : BitVec 32 := Scalar.muli v1424 c256_i32_830
  let c128_i32_831 : BitVec 32 := 128#32
  let v1436 : BitVec 32 := Scalar.addi v1435 c128_i32_831
  v1436
def k0_mult23 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_874 : BitVec 32 := 2#32
  let v1472 : BitVec 32 := Scalar.subi v2 c2_i32_874
  let c8_i32_875 : BitVec 32 := 8#32
  let v1473 : BitVec 32 := Scalar.addi v1472 c8_i32_875
  let c4_i32_876 : BitVec 32 := 4#32
  let v1474 : BitVec 32 := Scalar.remsi v1473 c4_i32_876
  let c256_i32_877 : BitVec 32 := 256#32
  let v1475 : BitVec 32 := Scalar.muli v1474 c256_i32_877
  v1475
def k0_mult24 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_883 : BitVec 32 := 2#32
  let v1483 : BitVec 32 := Scalar.addi v2 c2_i32_883
  let c4_i32_884 : BitVec 32 := 4#32
  let v1484 : BitVec 32 := Scalar.remsi v1483 c4_i32_884
  let c256_i32_885 : BitVec 32 := 256#32
  let v1485 : BitVec 32 := Scalar.muli v1484 c256_i32_885
  let c128_i32_886 : BitVec 32 := 128#32
  let v1486 : BitVec 32 := Scalar.addi v1485 c128_i32_886
  v1486
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S1x1024x4096 : Shape := ⟨3, ![1, 1024, 4096]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x32x1024x1024 : Shape := ⟨4, ![1, 32, 1024, 1024]⟩
abbrev S1x1x1024x1024 : Shape := ⟨4, ![1, 1, 1024, 1024]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 67
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x4096, .bf16⟩
  | .hbm, ⟨2, _⟩ => ⟨S1x1024x32x128, .bf16⟩
  | .hbm, ⟨3, _⟩ => ⟨S1x1024x32x128, .bf16⟩
  | .hbm, ⟨4, _⟩ => ⟨S4096x1024, .bf16⟩
  | .hbm, ⟨5, _⟩ => ⟨S1x1024x1024, .f32⟩
  | .hbm, ⟨6, _⟩ => ⟨S1024x4096, .f32⟩
  | .hbm, ⟨7, _⟩ => ⟨S1x1024x32x128, .f32⟩
  | .hbm, ⟨8, _⟩ => ⟨S1x1024x32x128, .f32⟩
  | .hbm, ⟨9, _⟩ => ⟨S4096x1024, .f32⟩
  | .hbm, ⟨10, _⟩ => ⟨S1x1024x4096, .f32⟩
  | .hbm, ⟨11, _⟩ => ⟨S1x1024x4096, .bf16⟩
  | .hbm, ⟨12, _⟩ => ⟨S1x1024x4096, .f32⟩
  | .hbm, ⟨13, _⟩ => ⟨S1x1024x32x128, .f32⟩
  | .hbm, ⟨14, _⟩ => ⟨S1024, .i32⟩
  | .hbm, ⟨15, _⟩ => ⟨S1024x1, .i32⟩
  | .hbm, ⟨16, _⟩ => ⟨S1024, .i32⟩
  | .hbm, ⟨17, _⟩ => ⟨S1x1024, .i32⟩
  | .hbm, ⟨18, _⟩ => ⟨S1024x1024, .i32⟩
  | .hbm, ⟨19, _⟩ => ⟨S1024x1024, .i32⟩
  | .hbm, ⟨20, _⟩ => ⟨S1024x1024, .i32⟩
  | .hbm, ⟨21, _⟩ => ⟨S1024x1024, .i32⟩
  | .hbm, ⟨22, _⟩ => ⟨S_, .i32⟩
  | .hbm, ⟨23, _⟩ => ⟨S1024x1024, .i32⟩
  | .hbm, ⟨24, _⟩ => ⟨S1024x1024, .i1⟩
  | .hbm, ⟨25, _⟩ => ⟨S1x32x1024x1024, .f32⟩
  | .hbm, ⟨26, _⟩ => ⟨S1x32x1024x1024, .bf16⟩
  | .hbm, ⟨27, _⟩ => ⟨S1x32x1024x1024, .f32⟩
  | .hbm, ⟨28, _⟩ => ⟨S_, .f32⟩
  | .hbm, ⟨29, _⟩ => ⟨S1x32x1024x1024, .f32⟩
  | .hbm, ⟨30, _⟩ => ⟨S1x32x1024x1024, .f32⟩
  | .hbm, ⟨31, _⟩ => ⟨S1x1x1024x1024, .i1⟩
  | .hbm, ⟨32, _⟩ => ⟨S_, .f32⟩
  | .hbm, ⟨33, _⟩ => ⟨S_, .f32⟩
  | .hbm, ⟨34, _⟩ => ⟨S1x32x1024x1024, .i1⟩
  | .hbm, ⟨35, _⟩ => ⟨S1x32x1024x1024, .f32⟩
  | .hbm, ⟨36, _⟩ => ⟨S1x32x1024x1024, .f32⟩
  | .hbm, ⟨37, _⟩ => ⟨S_, .f32⟩
  | .hbm, ⟨38, _⟩ => ⟨S1x32x1024, .f32⟩
  | .hbm, ⟨39, _⟩ => ⟨S1x32x1024x1, .f32⟩
  | .hbm, ⟨40, _⟩ => ⟨S1x32x1024x1024, .f32⟩
  | .hbm, ⟨41, _⟩ => ⟨S1x32x1024x1024, .f32⟩
  | .hbm, ⟨42, _⟩ => ⟨S1x32x1024x1024, .f32⟩
  | .hbm, ⟨43, _⟩ => ⟨S_, .i1⟩
  | .hbm, ⟨44, _⟩ => ⟨S1024, .i1⟩
  | .hbm, ⟨45, _⟩ => ⟨S1x1x1024x1, .i1⟩
  | .hbm, ⟨46, _⟩ => ⟨S_, .f32⟩
  | .hbm, ⟨47, _⟩ => ⟨S1x32x1024, .f32⟩
  | .hbm, ⟨48, _⟩ => ⟨S1x32x1024x1, .f32⟩
  | .hbm, ⟨49, _⟩ => ⟨S_, .f32⟩
  | .hbm, ⟨50, _⟩ => ⟨S_, .f32⟩
  | .hbm, ⟨51, _⟩ => ⟨S1x32x1024x1, .i1⟩
  | .hbm, ⟨52, _⟩ => ⟨S1x32x1024x1, .f32⟩
  | .hbm, ⟨53, _⟩ => ⟨S1x32x1024x1, .f32⟩
  | .hbm, ⟨54, _⟩ => ⟨S1x32x1024x1024, .f32⟩
  | .hbm, ⟨55, _⟩ => ⟨S1x32x1024x1024, .f32⟩
  | .hbm, ⟨56, _⟩ => ⟨S1x1x1024x1, .i1⟩
  | .hbm, ⟨57, _⟩ => ⟨S_, .f32⟩
  | .hbm, ⟨58, _⟩ => ⟨S_, .f32⟩
  | .hbm, ⟨59, _⟩ => ⟨S1x32x1024x1024, .i1⟩
  | .hbm, ⟨60, _⟩ => ⟨S1x32x1024x1024, .f32⟩
  | .hbm, ⟨61, _⟩ => ⟨S1x32x1024x1024, .f32⟩
  | .hbm, ⟨62, _⟩ => ⟨S1x32x128x1024, .f32⟩
  | .hbm, ⟨63, _⟩ => ⟨S1x1024x32x128, .f32⟩
  | .hbm, ⟨64, _⟩ => ⟨S1x1024x4096, .f32⟩
  | .hbm, ⟨65, _⟩ => ⟨S1x1024x1024, .f32⟩
  | .hbm, ⟨66, _⟩ => ⟨S1x1024x1024, .bf16⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

def κ : String → Option EReal := fun
  | "mask" => some ⊥
  | _ => none
-- ==== Proof.Common.lean ====
/-
  The names, and the protocol, of the two-directional ring: which device sends to which, the memrefs and
  semaphores of each hop, and what each transfer carries.

  Device `c` sends one slot per stage (six stages) in each of two directions: clockwise (`true`, to `nxt c`) and
  counterclockwise (`false`, to `prv c`). A transfer of stage `s` goes from slot `s` of the direction's send buffer
  (stages 0 to 3) or from slot `s - 1` of its receive buffer (stages 4 and 5, forwarding what the stage before
  landed) into slot `s` of the neighbour's receive buffer. Every slot and every DMA semaphore is used once, so each
  semaphore has one round of one duty. The barrier semaphore has one round of two duties, one per neighbour: with its
  signal a device hands over the receive buffer the neighbour will write.
-/
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The ring's own copy of the ghost state, beside the pipeline library's -/

/-- The pipeline library's ghost state (left) and the ring's (right; a cell's round may have two duties). -/
abbrev UU : Type := UR sig nD τ × URounds (GSem nD τ sig) Bool

local notation "𝕄" => MT nD τ sig Unit (Elt F) ℕ UU ℕ

/-- The pipeline library's ghost state in the whole. -/
abbrev EP : Emb (UR sig nD τ) (MT nD τ sig Unit (Elt F) ℕ UU ℕ) := embL
/-- The ring's ghost state in the whole. -/
abbrev ER : Emb (URounds (GSem nD τ sig) Bool) (MT nD τ sig Unit (Elt F) ℕ UU ℕ) := embR

/-- No variants. -/
abbrev 𝒱₀ : Variants := Variants.none

/-! ## The ring -/

/-- The right neighbour. -/
def nxt (c : Dev nD) : Dev nD := ⟨(c.val + 1) % 4, Nat.mod_lt _ (by decide)⟩
/-- The left neighbour. -/
def prv (c : Dev nD) : Dev nD := ⟨(c.val + 3) % 4, Nat.mod_lt _ (by decide)⟩
theorem nxt_prv (c : Dev nD) : nxt (prv c) = c := by revert c; decide
theorem prv_nxt (c : Dev nD) : prv (nxt c) = c := by revert c; decide
/-- One step to the right, as a permutation. -/
def ring : Dev nD ≃ Dev nD := ⟨nxt, prv, prv_nxt, nxt_prv⟩

/-- The device that `c` sends to in direction `d`. -/
def to_ : Bool → Dev nD → Dev nD
  | true, c => nxt c
  | false, c => prv c
/-- The device that `c` receives from in direction `d`. -/
def from_ : Bool → Dev nD → Dev nD
  | true, c => prv c
  | false, c => nxt c
theorem to_from (d : Bool) (c : Dev nD) : to_ d (from_ d c) = c := by revert d c; decide
theorem from_to (d : Bool) (c : Dev nD) : from_ d (to_ d c) = c := by revert d c; decide

/-! ## Memrefs, semaphores and cells -/

theorem inb_slot4 (s : Fin 4) : ∀ a, (![s.val, 0, 0] : Fin 3 → ℕ) a + S1x128x1024.size a ≤ S4x128x1024.size a := by
  revert s; decide
theorem inb_slot6 (s : Fin 6) : ∀ a, (![s.val, 0, 0] : Fin 3 → ℕ) a + S1x128x1024.size a ≤ S6x128x1024.size a := by
  revert s; decide
theorem inb_sem (s : Fin 6) : ∀ a, (![s.val] : Fin 1 → ℕ) a + S1.size a ≤ S6.size a := by
  revert s; decide

/-- Slot `s` of a send buffer. -/
abbrev slot4 (m : Memref sig .tc .vmem S4x128x1024 .bf16) (s : Fin 4) : Memref sig .tc .vmem S128x1024 .bf16 :=
  (m.slice (Rect.unit (s := S4x128x1024) ![s.val, 0, 0] S1x128x1024.size (inb_slot4 s)) (fun _ => rfl)).squeeze S128x1024 squeezes_S1x128x1024_S128x1024
/-- Slot `s` of a receive buffer. -/
abbrev slot6 (m : Memref sig .tc .vmem S6x128x1024 .bf16) (s : Fin 6) : Memref sig .tc .vmem S128x1024 .bf16 :=
  (m.slice (Rect.unit (s := S6x128x1024) ![s.val, 0, 0] S1x128x1024.size (inb_slot6 s)) (fun _ => rfl)).squeeze S128x1024 squeezes_S1x128x1024_S128x1024

/-- Slot `s` of direction `d`'s send buffer. -/
abbrev sM : Bool → Fin 4 → Memref sig .tc .vmem S128x1024 .bf16
  | true, s => slot4 (Memref.whole cc0_scratch3) s
  | false, s => slot4 (Memref.whole cc0_scratch5) s
/-- Slot `s` of direction `d`'s receive buffer. -/
abbrev rM : Bool → Fin 6 → Memref sig .tc .vmem S128x1024 .bf16
  | true, s => slot6 (Memref.whole cc0_scratch4) s
  | false, s => slot6 (Memref.whole cc0_scratch6) s

/-- What stage `s` sends from, in direction `d`. -/
abbrev srcM (d : Bool) : Fin 6 → Memref sig .tc .vmem S128x1024 .bf16
  | 0 => sM d 0
  | 1 => sM d 1
  | 2 => sM d 2
  | 3 => sM d 3
  | 4 => rM d 3
  | 5 => rM d 4

/-- One semaphore of a scratch array of six. -/
abbrev semAt (a : DmaSems sig S6) (s : Fin 6) : DmaSem sig :=
  ((a.slice (Rect.unit (s := S6) ![s.val] S1.size (inb_sem s))).squeeze S_ squeezes_S1_S_).sem
/-- Stage `s`'s send semaphore in direction `d`. -/
abbrev sendS : Bool → Fin 6 → DmaSem sig
  | true, s => semAt cc0_scratch7 s
  | false, s => semAt cc0_scratch9 s
/-- Stage `s`'s receive semaphore in direction `d`. -/
abbrev recvS : Bool → Fin 6 → DmaSem sig
  | true, s => semAt cc0_scratch8 s
  | false, s => semAt cc0_scratch10 s
/-- The barrier semaphore. -/
abbrev barS : Sem sig := (SemArray.scalar (sig.barrier 0 rfl) : Sems sig S_).sem

theorem sendS_val (d : Bool) (s : Fin 6) : (sendS d s).val = (if d then 6 else 18) + s.val := by revert d s; decide
theorem recvS_val (d : Bool) (s : Fin 6) : (recvS d s).val = (if d then 12 else 24) + s.val := by revert d s; decide

abbrev barCell (c : Dev nD) : GSem nD τ sig := ((c : Thread nD τ), .reg barS)
abbrev sendCell (d : Bool) (s : Fin 6) (c : Dev nD) : GSem nD τ sig := ((c : Thread nD τ), .dma (sendS d s))
abbrev recvCell (d : Bool) (s : Fin 6) (c : Dev nD) : GSem nD τ sig := ((c : Thread nD τ), .dma (recvS d s))

/-- What one transfer credits. -/
abbrev N : ℕ := (rM true 0).view.dmaCredit
theorem N_pos : 0 < N := View.dmaCredit_pos _ (by decide)
theorem credit_rM (d : Bool) (s : Fin 6) : (rM d s).view.dmaCredit = N := by cases d <;> rfl
theorem credit_sM (d : Bool) (s : Fin 4) : (sM d s).view.dmaCredit = N := by cases d <;> rfl

/-! ## Slots held -/

/-- A slot of device `c` at share `q`, holding `w`. -/
def sAt (m : Memref sig .tc .vmem S128x1024 .bf16) (c : Dev nD) (q : PosShare TreeShare) (w : FVec F S128x1024 .bf16) : sProp 𝕄 :=
  iprop(∃ f : Buf (Elt F) (m.view.loc (c : Thread nD τ)), ⌜m.view.read (Elt F) f = w⌝ ∗ m.view.loc (c : Thread nD τ) ↦[m.view.set]{q} f)
/-- A slot of device `c`, at anything. -/
def sAny (m : Memref sig .tc .vmem S128x1024 .bf16) (c : Dev nD) : sProp 𝕄 :=
  iprop(∃ f : Buf (Elt F) (m.view.loc (c : Thread nD τ)), m.view.loc (c : Thread nD τ) ↦[m.view.set]{fullShare} f)

instance (m : Memref sig .tc .vmem S128x1024 .bf16) (c : Dev nD) (q : PosShare TreeShare) (w : FVec F S128x1024 .bf16) :
    BI.Storable (upEmb : UEmb _ 𝕄) (sAt m c q w) := by unfold sAt; infer_instance
instance (m : Memref sig .tc .vmem S128x1024 .bf16) (c : Dev nD) :
    BI.Storable (upEmb : UEmb _ 𝕄) (sAny (F := F) m c) := by unfold sAny; infer_instance

/-! ## The schedule -/

/-- What device `c` sends at each stage in each direction. -/
abbrev Hops (F : FTy → Type) : Type := Bool → Fin 6 → Dev nD → FVec F S128x1024 .bf16

/-- The share of the source a transfer takes: all of a send slot, half of a receive slot it forwards (the other half is read meanwhile). -/
abbrev srcQ : Fin 6 → PosShare TreeShare
  | 4 => fullShare.left
  | 5 => fullShare.left
  | _ => fullShare

variable (H : Hops F)

/-- With its signal to `c`'s barrier the device that `c` sends to in direction `d` hands `c` its receive slots of that direction. -/
def barPay (c : Dev nD) (d : Bool) : sProp 𝕄 :=
  bigSep Finset.univ fun s : Fin 6 => iprop(sAny (rM d s) (to_ d c) ∗ reached ER (recvCell d s (to_ d c)) 0)
/-- What lands in `c`'s receive slot. -/
def recvPay (d : Bool) (s : Fin 6) (c : Dev nD) : sProp 𝕄 := sAt (rM d s) c fullShare (H d s (from_ d c))
/-- What comes back when `c`'s transfer has left. -/
def sendPay (d : Bool) (s : Fin 6) (c : Dev nD) : sProp 𝕄 := sAt (srcM d s) c (srcQ s) (H d s c)

/-- The payload of DMA semaphore `k` of device `c`. -/
def dmaPay (k : ℕ) (c : Dev nD) : sProp 𝕄 :=
  if k < 12 then sendPay H true ⟨(k - 6) % 6, Nat.mod_lt _ (by decide)⟩ c
  else if k < 18 then recvPay H true ⟨(k - 12) % 6, Nat.mod_lt _ (by decide)⟩ c
  else if k < 24 then sendPay H false ⟨(k - 18) % 6, Nat.mod_lt _ (by decide)⟩ c
  else recvPay H false ⟨(k - 24) % 6, Nat.mod_lt _ (by decide)⟩ c

/-- The duties of a semaphore in its one round. -/
def dutyOf : SemLoc sig → Finset Bool
  | .reg _ => Finset.univ
  | .dma k => if 6 ≤ k.val then {true} else ∅

/-- The units a duty pays. -/
def amountOf' : SemLoc sig → ℕ
  | .reg _ => 1
  | .dma _ => N

/-- What a duty hands over. -/
def payOf (c : Dev nD) (d : Bool) : SemLoc sig → sProp 𝕄
  | .reg _ => barPay c d
  | .dma k => dmaPay H k.val c

/-- One round on every barrier cell (a duty per neighbour) and on every transfer's two cells (one duty). -/
def ringRd : Rounds.Schedule (GSem nD τ sig) Bool 𝕄 where
  duties g r := if r = 0 ∧ g.1.2 = .tc then dutyOf g.2 else ∅
  unitless _ := False
  amount g _ _ := amountOf' g.2
  payload g _ d := payOf H g.1.1 d g.2
  amount_pos g _ _ _ := by
    rcases g with ⟨_, _ | _⟩
    · exact Nat.one_pos
    · exact N_pos

instance ringRd_payload_storable (g : GSem nD τ sig) (r : ℕ) (d : Bool) :
    BI.Storable (upEmb : UEmb _ 𝕄) ((ringRd H).payload g r d) := by
  show BI.Storable upEmb (payOf H g.1.1 d g.2)
  rcases g with ⟨t, _ | k⟩
  · show BI.Storable upEmb (barPay t.1 d)
    unfold barPay; infer_instance
  · show BI.Storable upEmb (dmaPay H k.val t.1)
    unfold dmaPay sendPay recvPay
    (repeat' split) <;> infer_instance

section Tables

variable (d : Bool) (s : Fin 6) (c : Dev nD)

theorem duties_bar : (ringRd H).duties (barCell c) 0 = Finset.univ := by
  show (if 0 = 0 ∧ (barCell c).1.2 = Proc.tc then dutyOf (barCell c).2 else ∅) = _
  exact if_pos ⟨rfl, rfl⟩
theorem duties_dma (k : DmaSem sig) (hk : 6 ≤ k.val) : (ringRd H).duties ((c : Thread nD τ), .dma k) 0 = {true} := by
  show (if 0 = 0 ∧ (((c : Thread nD τ), SemLoc.dma k) : GSem nD τ sig).1.2 = Proc.tc then (if 6 ≤ k.val then {true} else ∅) else ∅) = _
  rw [if_pos ⟨rfl, rfl⟩, if_pos hk]
theorem duties_send : (ringRd H).duties (sendCell d s c) 0 = {true} :=
  duties_dma H c _ (by rw [sendS_val]; split <;> omega)
theorem duties_recv : (ringRd H).duties (recvCell d s c) 0 = {true} :=
  duties_dma H c _ (by rw [recvS_val]; split <;> omega)
theorem duties_later (g : GSem nD τ sig) : ∀ r, 1 ≤ r → (ringRd H).duties g r = ∅ :=
  fun r hr => if_neg fun h => by omega

theorem expect_bar : (ringRd H).expect (barCell c) 0 = 2 := by
  unfold Schedule.expect Schedule.amountOf; rw [duties_bar]; rfl
theorem expect_send : (ringRd H).expect (sendCell d s c) 0 = N := by
  unfold Schedule.expect Schedule.amountOf; rw [duties_send, Finset.sum_singleton]; rfl
theorem expect_recv : (ringRd H).expect (recvCell d s c) 0 = N := by
  unfold Schedule.expect Schedule.amountOf; rw [duties_recv, Finset.sum_singleton]; rfl

theorem payload_bar : (ringRd H).payload (barCell c) 0 d = barPay c d := rfl
theorem payload_send (b : Bool) : (ringRd H).payload (sendCell d s c) 0 b = sendPay H d s c := by
  show dmaPay H (sendS d s).val c = _
  rw [sendS_val]; unfold dmaPay
  cases d <;> fin_cases s <;> rfl
theorem payload_recv (b : Bool) : (ringRd H).payload (recvCell d s c) 0 b = recvPay H d s c := by
  show dmaPay H (recvS d s).val c = _
  rw [recvS_val]; unfold dmaPay
  cases d <;> fin_cases s <;> rfl

end Tables

end Cert.KernelIdeal.Ring

end
-- ==== Proof.Steps.lean ====
/-
  The ring's transfers one by one: what a device owes, and one rule per kind of step — the signal to a neighbour, the
  wait on its barrier, a transfer's start, the wait for it to have left and the wait for one to land — each stated once
  for every direction and stage.
-/
module

public import proofs.«01_k».proof.Proof.Common

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## The cells, and the records every device may consult -/

/-- The DMA cells of one device: by direction and stage, and whether it is the receiving one. -/
abbrev dmaAt (p : (Bool × Fin 6) × Bool) : DmaSem sig := if p.2 then recvS p.1.1 p.1.2 else sendS p.1.1 p.1.2

theorem dmaAt_inj : Function.Injective dmaAt := by decide

/-- Each device's barrier cell. -/
def barEmb : Dev nD ↪ GSem nD τ sig := ⟨barCell, fun _ _ h => congrArg (fun g : GSem nD τ sig => g.1.1) h⟩
/-- Each device's DMA cells. -/
def dmaEmb : Dev nD × ((Bool × Fin 6) × Bool) ↪ GSem nD τ sig :=
  ⟨fun x => ((x.1 : Thread nD τ), .dma (dmaAt x.2)), fun _ _ h =>
    Prod.ext (congrArg (fun g : GSem nD τ sig => g.1.1) h) (dmaAt_inj (SemLoc.dma.inj (congrArg Prod.snd h)))⟩

abbrev barCells : Finset (GSem nD τ sig) := Finset.univ.map barEmb
abbrev dmaCells : Finset (GSem nD τ sig) := Finset.univ.map dmaEmb

theorem bar_mem (c : Dev nD) : barCell c ∈ (barCells ∪ dmaCells : Finset (GSem nD τ sig)) :=
  Finset.mem_union_left _ (Finset.mem_map_of_mem barEmb (Finset.mem_univ c))
theorem send_mem (d : Bool) (s : Fin 6) (c : Dev nD) : sendCell d s c ∈ (barCells ∪ dmaCells : Finset (GSem nD τ sig)) :=
  Finset.mem_union_right _ (Finset.mem_map_of_mem dmaEmb (Finset.mem_univ (c, ((d, s), false))))
theorem recv_mem (d : Bool) (s : Fin 6) (c : Dev nD) : recvCell d s c ∈ (barCells ∪ dmaCells : Finset (GSem nD τ sig)) :=
  Finset.mem_union_right _ (Finset.mem_map_of_mem dmaEmb (Finset.mem_univ (c, ((d, s), true))))

variable (H : Hops F)

/-- All the invariants under one map of names, and that round 0 of every barrier cell is reached. -/
def records (K : GSem nD τ sig → ℕ) : sProp 𝕄 :=
  iprop((bigSep (barCells ∪ dmaCells) fun g => cellInv ER (ringRd H) (K g) g) ∗ bigSep barCells fun g => reached ER g 0)

instance records_persistent (K : GSem nD τ sig → ℕ) : BI.Persistent (records H K) := by unfold records; infer_instance

theorem inv_at (K : GSem nD τ sig → ℕ) {g : GSem nD τ sig} (hg : g ∈ (barCells ∪ dmaCells : Finset (GSem nD τ sig))) :
    records H K ⊢ cellInv ER (ringRd H) (K g) g := by
  have h : (bigSep (barCells ∪ dmaCells) fun g => (cellInv ER (ringRd H) (K g) g : sProp 𝕄)) ⊢ cellInv ER (ringRd H) (K g) g := bigSep_elim hg
  unfold records
  iintro ⟨HI, -⟩
  iapply h; iexact HI

theorem reached_at (K : GSem nD τ sig → ℕ) (c : Dev nD) : records H K ⊢ reached ER (barCell c) 0 := by
  have h : (bigSep barCells fun g => (reached ER g 0 : sProp 𝕄)) ⊢ reached ER (barCell c) 0 := bigSep_elim (Finset.mem_map_of_mem barEmb (Finset.mem_univ c))
  unfold records
  iintro ⟨-, HR⟩
  iapply h; iexact HR

/-! ## Levels, and what is owed -/

/-- Every core's cell has the one index. -/
def L (g : GSem nD τ sig) : Finset Unit := if g.1.2 = .tc then {()} else ∅

/-- The level of a semaphore: send cells lowest, then the barrier, then the receive cells by stage. -/
def lvOf : SemLoc sig → ℕ
  | .reg _ => 1
  | .dma k => if 12 ≤ k.val ∧ k.val < 18 then 2 + (k.val - 12) else if 24 ≤ k.val then 2 + (k.val - 24) else 0
def lv (g : GSem nD τ sig) (_ : Unit) : ℕ := lvOf g.2

theorem L_tc (c : Dev nD) (sm : SemLoc sig) : L ((c : Thread nD τ), sm) = {()} := if_pos rfl
theorem lv_send (d : Bool) (s : Fin 6) (c : Dev nD) (u : Unit) : lv (sendCell d s c) u = 0 := by
  show lvOf (.dma (sendS d s)) = _; revert d s; decide
theorem lv_recv (d : Bool) (s : Fin 6) (c : Dev nD) (u : Unit) : lv (recvCell d s c) u = 2 + s.val := by
  show lvOf (.dma (recvS d s)) = _; revert d s; decide

/-- The receive credits `c` still owes its neighbours, for the transfers in the list, which it starts in this order. -/
def dues (c : Dev nD) : List (Bool × Fin 6) → CellTallies nD τ sig Unit
  | [] => 0
  | p :: l => dues c l + tallyAt (recvCell p.1 p.2 (to_ p.1 c)) () N

/-- The transfers in the order a device starts them. -/
abbrev order : List (Bool × Fin 6) :=
  [(true, 0), (false, 0), (true, 1), (false, 1), (true, 2), (false, 2), (true, 3), (false, 3), (true, 4), (false, 4), (true, 5), (false, 5)]

/-- All a device owes at launch: the transfers', and a barrier unit to each neighbour. -/
def O₀ (c : Dev nD) : CellTallies nD τ sig Unit :=
  (dues c order + tallyAt (barCell (nxt c)) () 1) + tallyAt (barCell (prv c)) () 1

theorem dues_pos {c : Dev nD} : ∀ {l : List (Bool × Fin 6)} {g : GSem nD τ sig} {u : Unit}, 0 < dues c l g u →
    ∃ p ∈ l, g = recvCell p.1 p.2 (to_ p.1 c)
  | [], _, _, h => absurd h (Nat.lt_irrefl 0)
  | p :: l, g, u, h => by
    have h' : 0 < dues c l g u + (tallyAt (recvCell p.1 p.2 (to_ p.1 c)) () N : CellTallies nD τ sig Unit) g u := h
    rcases Nat.add_pos_iff_pos_or_pos.mp h' with h' | h'
    · obtain ⟨q, hq, e⟩ := dues_pos h'; exact ⟨q, List.mem_cons_of_mem _ hq, e⟩
    · rw [tallyAt_apply] at h'
      split at h'
      · next e => exact ⟨p, List.mem_cons_self, e.1⟩
      · exact absurd h' (Nat.lt_irrefl 0)

/-- A wait on a cell is allowed while every transfer still to be started is of a later stage. -/
theorem mayWait (c : Dev nD) (sm : SemLoc sig) (l : List (Bool × Fin 6)) (h : ∀ p ∈ l, lvOf sm < 2 + p.2.val) :
    (levAts L lv : sProp 𝕄) ⊢ MayWait (c : Thread nD τ) sm () (dues c l) :=
  MayOwe.of_cut (L := L) (lev := lv) (lvOf sm) (fun p hp => by rw [Finset.mem_singleton.mp hp, L_tc]; exact Finset.mem_singleton_self _)
    (fun g u hg => by obtain ⟨p, -, rfl⟩ := dues_pos hg; rw [L_tc]; exact Finset.mem_singleton_self _)
    (fun p hp => by rw [Finset.mem_singleton.mp hp]; exact le_rfl)
    (fun g u hg => by obtain ⟨p, hp, rfl⟩ := dues_pos hg; rw [lv_recv]; exact h p hp)

/-- What a core owes, its waits not named. -/
def ow (c : Dev nD) (O : CellTallies nD τ sig Unit) : sProp 𝕄 := iprop(∃ W, owes (c : Thread nD τ) O W)

theorem sAt_intro (m : Memref sig .tc .vmem S128x1024 .bf16) (c : Dev nD) (q : PosShare TreeShare) (w : FVec F S128x1024 .bf16)
    (f : Buf (Elt F) (m.view.loc (c : Thread nD τ))) (hf : m.view.read (Elt F) f = w) :
    (m.view.loc (c : Thread nD τ) ↦[m.view.set]{q} f : sProp 𝕄) ⊢ sAt m c q w := by
  unfold sAt
  iintro H; iexists f; isplitr; · ipureintro; exact hf
  iexact H
theorem sAt_landed (m : Memref sig .tc .vmem S128x1024 .bf16) (c : Dev nD) (fd : Buf (Elt F) (m.view.loc (c : Thread nD τ)))
    (v w : FVec F S128x1024 .bf16) (h : v = w) :
    (m.view.loc (c : Thread nD τ) ↦[m.view.set]{fullShare} (m.view.write (Elt F) fd v Finset.univ) : sProp 𝕄) ⊢ sAt m c fullShare w :=
  sAt_intro m c fullShare w _ ((View.read_write_univ ..).trans h)

theorem credit_srcM (d : Bool) (s : Fin 6) : (srcM d s).view.dmaCredit = N := by cases d <;> fin_cases s <;> rfl

theorem rest_bar (c : Dev nD) : (bigSep ((ringRd H).duties (barCell c) 0 \ ∅) fun d => (ringRd H).payload (barCell c) 0 d : sProp 𝕄)
    = iprop(barPay c true ∗ barPay c false) := by
  rw [duties_bar, Finset.sdiff_empty, show (Finset.univ : Finset Bool) = {true, false} from by decide, bigSep_insert (by decide), bigSep_singleton]
  rfl
theorem rest_send (d : Bool) (s : Fin 6) (c : Dev nD) :
    (bigSep ((ringRd H).duties (sendCell d s c) 0 \ ∅) fun b => (ringRd H).payload (sendCell d s c) 0 b : sProp 𝕄) = sAt (srcM d s) c (srcQ s) (H d s c) := by
  rw [duties_send, Finset.sdiff_empty, bigSep_singleton, payload_send]; rfl
theorem rest_recv (d : Bool) (s : Fin 6) (c : Dev nD) :
    (bigSep ((ringRd H).duties (recvCell d s c) 0 \ ∅) fun b => (ringRd H).payload (recvCell d s c) 0 b : sProp 𝕄) = sAt (rM d s) c fullShare (H d s (from_ d c)) := by
  rw [duties_recv, Finset.sdiff_empty, bigSep_singleton, payload_recv]; rfl

/-! ## One stage's tokens -/

/-- What a device holds for the transfer of stage `s` before it starts it. -/
def Stg (d : Bool) (s : Fin 6) (c : Dev nD) : sProp 𝕄 :=
  iprop(dutyTok ER (sendCell d s c) 0 true ∗ dutyTok ER (recvCell d s (to_ d c)) 0 true
    ∗ atPos ER (sendCell d s c) 0 ∅ 0 ∗ reached ER (sendCell d s c) 0
    ∗ atPos ER (recvCell d s c) 0 ∅ 0 ∗ cred (tallyAt (recvCell d s c) () N))
/-- The neighbour's slot, handed over at the barrier. -/
def Tgt (d : Bool) (s : Fin 6) (c : Dev nD) : sProp 𝕄 :=
  iprop(sAny (rM d s) (to_ d c) ∗ reached ER (recvCell d s (to_ d c)) 0)
/-- What waits for a transfer to have left. -/
def OutFl (d : Bool) (s : Fin 6) (c : Dev nD) : sProp 𝕄 :=
  iprop(atPos ER (sendCell d s c) 0 ∅ 0 ∗ cred (tallyAt (sendCell d s c) () N))
/-- What waits for one to land. -/
def InFl (d : Bool) (s : Fin 6) (c : Dev nD) : sProp 𝕄 :=
  iprop(atPos ER (recvCell d s c) 0 ∅ 0 ∗ cred (tallyAt (recvCell d s c) () N))

section

variable [FloatOps F] [Named F] (K : GSem nD τ sig → ℕ) (c : Dev nD)

/-- Signal the device that `c` receives from in direction `d`: its receive slots of that direction go along. -/
theorem step_signal (d : Bool) (n : Dev nD) (hn : n = from_ d c) (O : CellTallies nD τ sig Unit)
    {α : Type} {Q : α → sProp 𝕄} {k : PUnit → Prog (TpuEff nD τ sig (Elt F) Λ₀ Proc.tc) α} :
    iprop(records H K ∗ ow c (O + tallyAt (barCell (from_ d c)) () 1) ∗ dutyTok ER (barCell (from_ d c)) 0 d
        ∗ bigSep Finset.univ fun s : Fin 6 => iprop(sAny (rM d s) c ∗ reached ER (recvCell d s c) 0))
      ⊢ iprop((ow c O -∗ wp frame (wpE (defs₀ (F := F)) 𝒱₀ (c : Thread nD τ) none) Set.univ (k ⟨⟩) Q) -∗ wp frame (wpE (defs₀ (F := F)) 𝒱₀ (c : Thread nD τ) none) Set.univ (.op (.semSignal (Dev.tc n) barS (1#32).toInt) k) Q) := by
  subst hn
  unfold ow
  iintro ⟨#HR, ⟨%W, HO⟩, Ht, Hs⟩ Hk
  iapply (Rounds.wp_signal 𝒱₀ ER (ringRd H) (c : Thread nD τ) none (dst := (from_ d c : Thread nD τ)) (sem := barS) (k' := 1) (r := 0) (d := d) (κ := K (barCell (from_ d c)))
      (by rw [duties_bar]; exact Finset.mem_univ _) rfl () O rfl) $$ [HO Ht Hs]
  · isplitr; · iapply (inv_at H K (bar_mem _)); iexact HR
    isplitl [HO]; · iexact HO
    isplitl [Ht]; · iexact Ht
    isplitl [Hs]
    · rw [payload_bar]; unfold barPay; rw [to_from]; iexact Hs
    · iapply (reached_at H K); iexact HR
  iintro HO; iapply Hk; iexists W; iexact HO

/-- Wait for both neighbours: their receive slots are in hand, and the barrier's counter is back at zero. -/
theorem step_barrier (l : List (Bool × Fin 6))
    {α : Type} {Q : α → sProp 𝕄} {k : PUnit → Prog (TpuEff nD τ sig (Elt F) Λ₀ Proc.tc) α} :
    iprop(records H K ∗ levAts L lv ∗ ow c (dues c l) ∗ cred (tallyAt (barCell c) () 2) ∗ atPos ER (barCell c) 0 ∅ 0)
      ⊢ iprop((iprop(ow c (dues c l) ∗ semVal (barCell c) 0 ∗ barPay (F := F) c true ∗ barPay (F := F) c false) -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (2#32).toInt) k) Q) := by
  unfold ow
  iintro ⟨#HR, #Hlev, ⟨%W, HO⟩, Hc, Hat⟩ Hk
  ihave #HI := (inv_at H K (bar_mem c)) $$ HR
  iapply (Rounds.wp_wait_rest_token 𝒱₀ ER (ringRd H) (c : Thread nD τ) none (κ := K (barCell c))
      (wpE_semWait_eq 𝒱₀ (c : Thread nD τ) none Set.univ (k := 2)) (Set.mem_univ _) () (O := dues c l) (W := W) (R := 0) (m := 0) (T := ∅)
      ((Nat.zero_add 2).trans (expect_bar H c).symm)) $$ [Hc HO Hat]
  · isplitr; · iexact HI
    isplitl [Hc]; · iexact Hc
    isplitl [HO]; · iexact HO
    isplitr; · iapply (mayWait c (.reg barS) l (fun p _ => show 1 < 2 + p.2.val by omega)); iexact Hlev
    iexact Hat
  iintro ⟨HO, Hat, -, Hpay⟩
  imod (Rounds.cell_close ER (ringRd H) (Set.mem_univ (K (barCell c))) id (duties_later H (barCell c))) $$ [Hat] with Hv
  · isplitr; · iexact HI
    iexact Hat
  iapply Hk
  isplitl [HO]; · iexists _; iexact HO
  isplitl [Hv]; · iexact Hv
  ihave Hp := (Entails.of_eq (rest_bar H c)) $$ Hpay
  iexact Hp

/-- Start the transfer of stage `s` in direction `d`, from a source that holds what the schedule says. -/
theorem step_send (d : Bool) (s : Fin 6) (n : Dev nD) (hn : n = to_ d c) (l : List (Bool × Fin 6))
    {hsc : (rM d s).view.ref.isScScratch = false}
    {hsrc : (srcM d s).view.WordExact} {hdst : (rM d s).view.WordExact}
    {hsem : DmaTarget.Typed (nD := nD) (τ := τ) (p := Proc.tc) .vmem (.dma (recvS d s)) (.remote (Dev.tc n) (rM d s) (.dma (sendS d s)) hsc)}
    {α : Type} {Q : α → sProp 𝕄} {k : PUnit → Prog (TpuEff nD τ sig (Elt F) Λ₀ Proc.tc) α} :
    iprop(records H K ∗ ow c (dues c ((d, s) :: l)) ∗ Stg d s c ∗ Tgt d s c ∗ sAt (srcM d s) c (srcQ s) (H d s c))
      ⊢ iprop((iprop(ow c (dues c l) ∗ OutFl d s c ∗ InFl d s c) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (srcM d s) (.remote (Dev.tc n) (rM d s) (.dma (sendS d s)) hsc) (.dma (recvS d s)) hsrc hdst hsem) k) Q) := by
  subst hn
  unfold ow Stg Tgt sAt sAny OutFl InFl
  iintro ⟨#HR, ⟨%W, HO⟩, ⟨HtS, HtR, HaS, #HrS, HaR, HcR⟩, ⟨⟨%fd, Hd⟩, #HrR⟩, ⟨%fs, %hfs, Hs⟩⟩ Hk
  iapply (Rounds.wp_send_pointsTo 𝒱₀ ER (ringRd H) (c : Thread nD τ) none (c' := (to_ d c : Thread nD τ)) (src := srcM d s) (dst := rM d s)
      (sS := .dma (sendS d s)) (sem := .dma (recvS d s)) (q := srcQ s) (fs := fs) (κ₁ := K (sendCell d s c)) (κ₂ := K (recvCell d s (to_ d c)))
      (r₁ := 0) (r₂ := 0) (d₁ := true) (d₂ := true) (fd := fd)
      (by rw [duties_send]; exact Finset.mem_singleton_self _) (by rw [duties_recv]; exact Finset.mem_singleton_self _)
      () () N (credit_rM d s) rfl rfl (dues c l) rfl (W := W)
      (by rw [payload_send]; exact sAt_intro _ c _ _ fs hfs)
      (by rw [payload_recv]; exact sAt_landed _ _ fd _ _ (hfs.trans (by rw [from_to])))) $$ [Hs Hd HO HtS HtR]
  · isplitr; · iapply (inv_at H K (send_mem d s c)); iexact HR
    isplitr; · iapply (inv_at H K (recv_mem d s (to_ d c))); iexact HR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitl [HO]; · iexists W; iexact HO
  isplitl [HaS HcS]; · isplitl [HaS] <;> iassumption
  isplitl [HaR] <;> iassumption

/-- Wait for a transfer to have left: its source comes back, and the counter at zero. -/
theorem step_waitSend (d : Bool) (s : Fin 6) (l : List (Bool × Fin 6)) (hl : ∀ p ∈ l, 0 < 2 + p.2.val := by intro p _; omega)
    {sp : Space} {src : Memref sig .tc sp S128x1024 .bf16} {hsrc : src.view.WordExact} {hdst : (srcM d s).view.WordExact}
    {α : Type} {Q : α → sProp 𝕄} {k : PUnit → Prog (TpuEff nD τ sig (Elt F) Λ₀ Proc.tc) α} :
    iprop(records H K ∗ levAts L lv ∗ ow c (dues c l) ∗ OutFl d s c)
      ⊢ iprop((iprop(ow c (dues c l) ∗ semVal (sendCell d s c) 0 ∗ sAt (srcM d s) c (srcQ s) (H d s c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sendS d s) src (srcM d s) hsrc hdst) k) Q) := by
  unfold ow OutFl
  iintro ⟨#HR, #Hlev, ⟨%W, HO⟩, ⟨Hat, Hc⟩⟩ Hk
  ihave #HI := (inv_at H K (send_mem d s c)) $$ HR
  iapply (Rounds.wp_wait_rest_token 𝒱₀ ER (ringRd H) (c : Thread nD τ) none (κ := K (sendCell d s c))
      (wpE_waitDma2_eq 𝒱₀ (c : Thread nD τ) none Set.univ) (Set.mem_univ _) () (O := dues c l) (W := W) (R := 0) (m := 0) (T := ∅)
      ((Nat.zero_add _).trans ((credit_srcM d s).trans (expect_send H d s c).symm))) $$ [Hc HO Hat]
  · isplitr; · iexact HI
    isplitl [Hc]; · rw [credit_srcM]; iexact Hc
    isplitl [HO]; · iexact HO
    isplitr; · iapply (mayWait c (.dma (sendS d s)) l (by rw [show lvOf (.dma (sendS d s)) = 0 from lv_send d s c ()]; exact hl)); iexact Hlev
    iexact Hat
  iintro ⟨HO, Hat, -, Hpay⟩
  imod (Rounds.cell_close ER (ringRd H) (Set.mem_univ (K (sendCell d s c))) id (duties_later H (sendCell d s c))) $$ [Hat] with Hv
  · isplitr; · iexact HI
    iexact Hat
  iapply Hk
  isplitl [HO]; · iexists _; iexact HO
  isplitl [Hv]; · iexact Hv
  iapply (Entails.of_eq (rest_send H d s c)) $$ Hpay

/-- Wait for a transfer to land: the slot is back, holding what the neighbour sent, and the counter at zero. -/
theorem step_waitRecv (d : Bool) (s : Fin 6) (l : List (Bool × Fin 6)) (hl : ∀ p ∈ l, 2 + s.val < 2 + p.2.val)
    {sp : Space} {src : Memref sig .tc sp S128x1024 .bf16} {hsrc : src.view.WordExact} {hdst : (rM d s).view.WordExact}
    {α : Type} {Q : α → sProp 𝕄} {k : PUnit → Prog (TpuEff nD τ sig (Elt F) Λ₀ Proc.tc) α} :
    iprop(records H K ∗ levAts L lv ∗ ow c (dues c l) ∗ InFl d s c)
      ⊢ iprop((iprop(ow c (dues c l) ∗ semVal (recvCell d s c) 0 ∗ sAt (rM d s) c fullShare (H d s (from_ d c))) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (recvS d s) src (rM d s) hsrc hdst) k) Q) := by
  unfold ow InFl
  iintro ⟨#HR, #Hlev, ⟨%W, HO⟩, ⟨Hat, Hc⟩⟩ Hk
  ihave #HI := (inv_at H K (recv_mem d s c)) $$ HR
  iapply (Rounds.wp_wait_rest_token 𝒱₀ ER (ringRd H) (c : Thread nD τ) none (κ := K (recvCell d s c))
      (wpE_waitDma2_eq 𝒱₀ (c : Thread nD τ) none Set.univ) (Set.mem_univ _) () (O := dues c l) (W := W) (R := 0) (m := 0) (T := ∅)
      ((Nat.zero_add _).trans ((credit_rM d s).trans (expect_recv H d s c).symm))) $$ [Hc HO Hat]
  · isplitr; · iexact HI
    isplitl [Hc]; · rw [credit_rM]; iexact Hc
    isplitl [HO]; · iexact HO
    isplitr; · iapply (mayWait c (.dma (recvS d s)) l (by rw [show lvOf (.dma (recvS d s)) = _ from lv_recv d s c ()]; exact hl)); iexact Hlev
    iexact Hat
  iintro ⟨HO, Hat, -, Hpay⟩
  imod (Rounds.cell_close ER (ringRd H) (Set.mem_univ (K (recvCell d s c))) id (duties_later H (recvCell d s c))) $$ [Hat] with Hv
  · isplitr; · iexact HI
    iexact Hat
  iapply Hk
  isplitl [HO]; · iexists _; iexact HO
  isplitl [Hv]; · iexact Hv
  iapply (Entails.of_eq (rest_recv H d s c)) $$ Hpay

end

end Cert.KernelIdeal.Ring

end
-- ==== Proof.Slots.lean ====
/-
  Reading and writing a slot of the communication buffers: a load through a slot's rectangle of the buffer reads what
  the slot holds, a store through it leaves the slot holding what was stored.
-/
module

public import proofs.«01_k».proof.Proof.Steps

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- A slot's three-axis value, by its two-axis one. -/
abbrev up (w : FVec F S128x1024 .bf16) : FVec F S1x128x1024 .bf16 := shapeCast S1x128x1024 w shapeCasts_S128x1024_S1x128x1024
/-- And back. -/
abbrev down (v : FVec F S1x128x1024 .bf16) : FVec F S128x1024 .bf16 := shapeCast S128x1024 v shapeCasts_S1x128x1024_S128x1024

theorem down_up (w : FVec F S128x1024 .bf16) : down (up w) = w := by
  funext j
  exact congrArg w (((Shape.reshapeEquiv _).symm_apply_eq.mpr rfl))
theorem up_down (v : FVec F S1x128x1024 .bf16) : up (down v) = v := by
  funext j
  exact congrArg v (((Shape.reshapeEquiv _).symm_apply_eq.mpr rfl))

theorem sAt_any (m : Memref sig .tc .vmem S128x1024 .bf16) (c : Dev nD) (w : FVec F S128x1024 .bf16) :
    sAt m c fullShare w ⊢ sAny (F := F) m c := by
  unfold sAt sAny
  iintro ⟨%f, -, H⟩; iexists f; iexact H

variable [FloatOps F] [Named F] (c : Dev nD)

/-- Load a send slot, whatever it holds. -/
theorem step_load4 (m : Memref sig .tc .vmem S4x128x1024 .bf16) (s : Fin 4) {α : Type} {Q : α → sProp 𝕄}
    {hl : m.view.LoadsAt (Rect.unit (s := S4x128x1024) ![s.val, 0, 0] S1x128x1024.size (inb_slot4 s)).toLoadRect}
    {k : FVec F S1x128x1024 .bf16 → Prog (TpuEff nD τ sig (Elt F) Λ₀ Proc.tc) α} :
    sAny (F := F) (slot4 m s) c
      ⊢ iprop((∀ v, sAny (F := F) (slot4 m s) c -∗ wp frame (wpE (defs₀ (F := F)) 𝒱₀ (c : Thread nD τ) none) Set.univ (k v) Q)
        -∗ wp frame (wpE (defs₀ (F := F)) 𝒱₀ (c : Thread nD τ) none) Set.univ
            (.op (.load (e := .bf16) m (Rect.unit (s := S4x128x1024) ![s.val, 0, 0] S1x128x1024.size (inb_slot4 s)).toLoadRect hl) k) Q) := by
  unfold sAny
  iintro ⟨%f, H⟩ Hk
  iapply (wp_load 𝒱₀ (c : Thread nD τ) none Set.univ (m := m) (S := (slot4 m s).view.set) (f := f) (q := fullShare)
    ((View.set_reshape _ _).trans (View.set_slice m.view _)).ge) $$ H
  iintro H
  iapply Hk
  iexists f; iexact H

/-- Store a send slot. -/
theorem step_store4 (m : Memref sig .tc .vmem S4x128x1024 .bf16) (s : Fin 4) (w : FVec F S1x128x1024 .bf16) {α : Type} {Q : α → sProp 𝕄}
    {hx : (m.access (Rect.unit (s := S4x128x1024) ![s.val, 0, 0] S1x128x1024.size (inb_slot4 s))).Stores Finset.univ}
    {hm : (Finset.univ : Finset (Rect.unit (s := S4x128x1024) ![s.val, 0, 0] S1x128x1024.size (inb_slot4 s)).shape.Idx) = Finset.univ
      ∨ ∀ a, (Rect.unit (s := S4x128x1024) ![s.val, 0, 0] S1x128x1024.size (inb_slot4 s)).stride a = 1}
    {k : PUnit → Prog (TpuEff nD τ sig (Elt F) Λ₀ Proc.tc) α} :
    sAny (F := F) (slot4 m s) c
      ⊢ iprop((sAt (slot4 m s) c fullShare (down w) -∗ wp frame (wpE (defs₀ (F := F)) 𝒱₀ (c : Thread nD τ) none) Set.univ (k ⟨⟩) Q)
        -∗ wp frame (wpE (defs₀ (F := F)) 𝒱₀ (c : Thread nD τ) none) Set.univ
            (.op (.store m (Rect.unit (s := S4x128x1024) ![s.val, 0, 0] S1x128x1024.size (inb_slot4 s)) w Finset.univ hx hm) k) Q) := by
  unfold sAny sAt
  iintro ⟨%f, H⟩ Hk
  iapply (wp_store 𝒱₀ (c : Thread nD τ) none Set.univ (m := m) (r := Rect.unit (s := S4x128x1024) ![s.val, 0, 0] S1x128x1024.size (inb_slot4 s))
    (Mk := Finset.univ) (S := (slot4 m s).view.set) (f := f)
    (by rw [show (slot4 m s).view.set = _ from View.set_reshape ..]; exact Finset.Subset.refl _)) $$ H
  iintro H
  iapply Hk
  iexists _; isplitr
  · ipureintro
    show shapeCast S128x1024 ((m.view.slice _).read (Elt F) ((m.view.slice _).write (Elt F) f w Finset.univ)) _ = _
    rw [View.read_write_univ]
  iexact H

/-- Load a receive slot: what is read is what it holds. -/
theorem step_load6 (m : Memref sig .tc .vmem S6x128x1024 .bf16) (s : Fin 6) (q : PosShare TreeShare) (w : FVec F S128x1024 .bf16) {α : Type} {Q : α → sProp 𝕄}
    {hl : m.view.LoadsAt (Rect.unit (s := S6x128x1024) ![s.val, 0, 0] S1x128x1024.size (inb_slot6 s)).toLoadRect}
    {k : FVec F S1x128x1024 .bf16 → Prog (TpuEff nD τ sig (Elt F) Λ₀ Proc.tc) α} :
    sAt (slot6 m s) c q w
      ⊢ iprop((sAt (slot6 m s) c q w -∗ wp frame (wpE (defs₀ (F := F)) 𝒱₀ (c : Thread nD τ) none) Set.univ (k (up w)) Q)
        -∗ wp frame (wpE (defs₀ (F := F)) 𝒱₀ (c : Thread nD τ) none) Set.univ
            (.op (.load (e := .bf16) m (Rect.unit (s := S6x128x1024) ![s.val, 0, 0] S1x128x1024.size (inb_slot6 s)).toLoadRect hl) k) Q) := by
  unfold sAt
  iintro ⟨%f, %hf, H⟩ Hk
  iapply (wp_load 𝒱₀ (c : Thread nD τ) none Set.univ (m := m) (S := (slot6 m s).view.set) (f := f) (q := q)
    ((View.set_reshape _ _).trans (View.set_slice m.view _)).ge) $$ H
  iintro H
  rw [show m.view.readAt (Elt F) (Rect.unit (s := S6x128x1024) ![s.val, 0, 0] S1x128x1024.size (inb_slot6 s)).toLoadRect f = up w from
    (up_down _).symm.trans (congrArg up hf)]
  iapply Hk
  iexists f; isplitr; · ipureintro; exact hf
  iexact H

end Cert.KernelIdeal.Ring

end
-- ==== Proof.Spec.lean ====
/-
  What each device computes, from its own inputs and its neighbours': a block of rows of its attention's output
  projected by its rows of the output matrix, the half blocks that travel the ring, and the array every device ends
  with.
-/
module

public import proofs.«01_k».proof.Proof.Slots

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- The operands on every device. -/
structure Ins (F : FTy → Type) where
  x : Dev nD → FVec F S1024x1024 .bf16
  wq : Dev nD → FVec F S1024x1024 .bf16
  k : Dev nD → FVec F S1024x1024 .bf16
  v : Dev nD → FVec F S1024x1024 .bf16
  wo : Dev nD → FVec F S1024x1024 .bf16

/-- A box of an array. -/
abbrev box {s : Shape} {α : Type} (X : s.Idx → α) (off size : Fin s.rank → ℕ) (inb : ∀ a, off a + size a ≤ s.size a) :
    (⟨s.rank, size⟩ : Shape).Idx → α := fun i => X ((Rect.unit off size inb).toLoadRect.idx i)

theorem box_congr {s : Shape} {α : Type} (X : s.Idx → α) {off off' size : Fin s.rank → ℕ} (h : off = off')
    (inb : ∀ a, off a + size a ≤ s.size a) (inb' : ∀ a, off' a + size a ≤ s.size a) : box X off size inb = box X off' size inb' := by
  subst h; rfl

theorem inb_blk (b : Fin 4) : ∀ a : Fin 2, (![256 * b.val, 0] : Fin 2 → ℕ) a + S256x1024.size a ≤ S1024x1024.size a := by
  revert b; decide
theorem inb_qh (b : Fin 4) (h : Fin 8) : ∀ a : Fin 2, (![256 * b.val, 128 * h.val] : Fin 2 → ℕ) a + S256x128.size a ≤ S1024x1024.size a := by
  revert b h; decide
theorem inb_kh (b : Fin 4) (h : Fin 8) :
    ∀ a : Fin 2, (![min 512 (256 * b.val - 128), 128 * h.val] : Fin 2 → ℕ) a + S512x128.size a ≤ S1024x1024.size a := by
  revert b h; decide
theorem inb_half (b : Fin 4) (d : Bool) :
    ∀ a : Fin 2, (![256 * b.val + (if d then 0 else 128), 0] : Fin 2 → ℕ) a + S128x1024.size a ≤ S1024x1024.size a := by
  revert b d; decide
theorem inb_half3 (b : Fin 4) (d : Bool) :
    ∀ a : Fin 3, (![0, 256 * b.val + (if d then 0 else 128), 0] : Fin 3 → ℕ) a + S1x128x1024.size a ≤ S1x1024x1024.size a := by
  revert b d; decide
theorem inb_halfOf (d : Bool) :
    ∀ a : Fin 2, (![(if d then 0 else 128), 0] : Fin 2 → ℕ) a + S128x1024.size a ≤ S256x1024.size a := by
  revert d; decide

variable [FloatOps F] [Named F]

instance : ∀ e, Nonempty (Elt F e) := inferInstance

/-- Eight heads side by side. -/
def heads (g : Fin 8 → FVec F S256x128 .bf16) : FVec F S256x1024 .bf16 :=
  (Memref.whole (cc0_scratch1 : Ref sig .tc)).view.readCov (Val := Elt F)
    [⟨Rect.unit (s := S256x1024) ![0, 896] S256x128.size inb_S256x1024_S256x128_0_896, g 7⟩,
      ⟨Rect.unit (s := S256x1024) ![0, 768] S256x128.size inb_S256x1024_S256x128_0_768, g 6⟩,
      ⟨Rect.unit (s := S256x1024) ![0, 640] S256x128.size inb_S256x1024_S256x128_0_640, g 5⟩,
      ⟨Rect.unit (s := S256x1024) ![0, 512] S256x128.size inb_S256x1024_S256x128_0_512, g 4⟩,
      ⟨Rect.unit (s := S256x1024) ![0, 384] S256x128.size inb_S256x1024_S256x128_0_384, g 3⟩,
      ⟨Rect.unit (s := S256x1024) ![0, 256] S256x128.size inb_S256x1024_S256x128_0_256, g 2⟩,
      ⟨Rect.unit (s := S256x1024) ![0, 128] S256x128.size inb_S256x1024_S256x128_0_128, g 1⟩,
      ⟨Rect.unit (s := S256x1024) ![0, 0] S256x128.size inb_S256x1024_S256x128_0_0, g 0⟩]
    (Rect.unit (s := S256x1024) ![0, 0] S256x1024.size inb_S256x1024_S256x1024_0_0).toLoadRect

/-- A block's projected attention, from its mask, its queries, keys and values by head, and the output matrix. -/
def blk (m : IVec S256x512 1) (qs : Fin 8 → FVec F S256x128 .bf16) (ks vs : Fin 8 → FVec F S512x128 .bf16)
    (wo : FVec F S1024x1024 .bf16) : FVec F S256x1024 .f32 :=
  k0_pay18 (heads fun h => k0_pay4 m (qs h) (ks h) (vs h)) wo

/-- All of an array, read as a box. -/
abbrev full {α : Type} (X : S1024x1024.Idx → α) : S1024x1024.Idx → α :=
  box (s := S1024x1024) X ![0, 0] S1024x1024.size inb_S1024x1024_S1024x1024_0_0

variable (I : Ins F)

/-- Device `c`'s projected queries. -/
def qOf (c : Dev nD) : FVec F S1024x1024 .bf16 := k0_pay2 (full (I.x c)) (full (I.wq c))

/-- Device `c`'s part of block `b`. -/
def accBlk (c : Dev nD) (b : Fin 4) : FVec F S256x1024 .f32 :=
  blk (k0_pay3 b) (fun h => box (s := S1024x1024) (qOf I c) ![256 * b.val, 128 * h.val] S256x128.size (inb_qh b h))
    (fun h => box (s := S1024x1024) (I.k c) ![min 512 (256 * b.val - 128), 128 * h.val] S512x128.size (inb_kh b h))
    (fun h => box (s := S1024x1024) (I.v c) ![min 512 (256 * b.val - 128), 128 * h.val] S512x128.size (inb_kh b h)) (full (I.wo c))

/-- The offsets do not matter but for their values. -/
theorem blk_eq (c : Dev nD) (b : Fin 4) {m : IVec S256x512 1} (hm : m = k0_pay3 b) (oq ok : Fin 8 → Fin 2 → ℕ)
    (hq : ∀ h, oq h = ![256 * b.val, 128 * h.val]) (hk : ∀ h, ok h = ![min 512 (256 * b.val - 128), 128 * h.val])
    (iq : ∀ h, ∀ a, oq h a + S256x128.size a ≤ S1024x1024.size a) (ik : ∀ h, ∀ a, ok h a + S512x128.size a ≤ S1024x1024.size a) :
    blk m (fun h => box (s := S1024x1024) (qOf I c) (oq h) S256x128.size (iq h)) (fun h => box (s := S1024x1024) (I.k c) (ok h) S512x128.size (ik h))
      (fun h => box (s := S1024x1024) (I.v c) (ok h) S512x128.size (ik h)) (full (I.wo c)) = accBlk I c b := by
  obtain rfl : oq = fun h => ![256 * b.val, 128 * h.val] := funext hq
  obtain rfl : ok = fun h => ![min 512 (256 * b.val - 128), 128 * h.val] := funext hk
  subst hm; rfl

/-- The half of a block that travels in direction `d`. -/
def chunk (d : Bool) (c : Dev nD) (b : Fin 4) : FVec F S128x1024 .f32 :=
  box (s := S256x1024) (accBlk I c b) ![(if d then 0 else 128), 0] S128x1024.size (inb_halfOf d)

/-- The device `n` hops before `c`. -/
def back (d : Bool) (n : ℕ) (c : Dev nD) : Dev nD := (from_ d)^[n] c

/-- What device `c` sends in direction `d` at stage `s`: its own part, then what it received with its own part added, then what
    it received. -/
def hopN (d : Bool) : ℕ → Dev nD → FVec F S128x1024 .bf16
  | 0, c => truncf .bf16 (chunk I d c c) bitsLt_bf16_f32
  | s + 1, c => if s + 1 ≤ 3 then
      truncf .bf16 (addf (chunk I d c (back d (s + 1) c)) (extf .f32 (hopN d s (from_ d c)) bitsLt_bf16_f32)) bitsLt_bf16_f32
    else hopN d s (from_ d c)

def hop : Hops F := fun d s c => hopN I d s.val c

/-- The half block `(b, d)` of the result, all devices' parts added. -/
def res (b : Fin 4) (d : Bool) : FVec F S128x1024 .bf16 := hopN I d 3 (from_ d b)

/-- The array every device ends with. -/
def finalOut : FVec F S1x1024x1024 .bf16 := fun i =>
  res I ⟨(i 1).val / 256, by have : (i 1).val < 1024 := (i 1).isLt; omega⟩ (decide ((i 1).val % 256 < 128))
    (Fin.cons (⟨(i 1).val % 128, Nat.mod_lt _ (by decide)⟩ : Fin 128) (Fin.cons (i 2) finZeroElim))

end Cert.KernelIdeal.Ring

end
-- ==== Proof.Bufs.lean ====
/-
  The two buffers a device fills block by block — its part of the product and the result — by what has been stored.
-/
module

public import proofs.«01_k».proof.Proof.Spec

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- A whole buffer of device `c`. -/
abbrev pt (c : Dev nD) (b : Ref sig .tc) (f : b.ty.Contents (Elt F)) : sProp 𝕄 := (Memref.whole b).view.loc (c : Thread nD τ) ↦{fullShare} f

/-- A stored box reads back as what was stored. -/
theorem box_store_same (b : Ref sig .tc) (off size : Fin b.ty.shape.rank → ℕ) (inb : ∀ a, off a + size a ≤ b.ty.shape.size a)
    (A : b.ty.Contents (Elt F)) (w : (Rect.unit off size inb).shape.Idx → Elt F b.ty.elt) :
    box (((Memref.whole b).access (Rect.unit off size inb)).write (Elt F) A w Finset.univ) off size inb = w :=
  View.read_write_univ (v := (View.whole b).slice (Rect.unit off size inb)) (f := A) (w := w)

/-- A box apart from the stored one, along some axis, reads as before. -/
theorem box_store_other (b : Ref sig .tc) (off off' size size' : Fin b.ty.shape.rank → ℕ) (inb : ∀ a, off a + size a ≤ b.ty.shape.size a)
    (inb' : ∀ a, off' a + size' a ≤ b.ty.shape.size a)
    (A : b.ty.Contents (Elt F)) (w : (Rect.unit off size inb).shape.Idx → Elt F b.ty.elt)
    (a : Fin b.ty.shape.rank) (h : off' a + size' a ≤ off a ∨ off a + size a ≤ off' a) :
    box (((Memref.whole b).access (Rect.unit off size inb)).write (Elt F) A w Finset.univ) off' size' inb' = box A off' size' inb' := by
  funext i
  refine View.write_of_not_mem (v := (View.whole b).slice (Rect.unit off size inb)) (f := A) (w := w) (M := Finset.univ) ?_
  rw [View.setOn_univ, View.set_slice]
  intro hm
  obtain ⟨y, hy, he⟩ := Finset.mem_map.mp hm
  have he' : y = (Rect.unit off' size' inb').toLoadRect.idx i := he
  subst he'
  have hia : (i a).val < size' a := (i a).isLt
  refine Rect.not_mem_set_of_axis (Rect.unit off size inb) _ a (off a) (size a) rfl rfl rfl ?_ hy
  show off' a + 1 * (i a).val < off a ∨ off a + size a ≤ off' a + 1 * (i a).val
  omega

variable [FloatOps F] [Named F]

/-- The projected queries' buffer, at anything. -/
def QAny (c : Dev nD) : sProp 𝕄 := iprop(∃ f, pt (F := F) c cc0_scratch0 f)

/-- Read it where nothing is asked of what is read. -/
theorem step_loadQ (c : Dev nD) {r : LoadRect S1024x1024} {α : Type} {Q : α → sProp 𝕄}
    {hl : (Memref.whole (cc0_scratch0 : Ref sig .tc)).view.LoadsAt r}
    {k : (r.shape.Idx → Elt F .bf16) → Prog (TpuEff nD τ sig (Elt F) Λ₀ Proc.tc) α} :
    QAny (F := F) c
      ⊢ iprop((∀ v, QAny (F := F) c -∗ wp frame (wpE (defs₀ (F := F)) 𝒱₀ (c : Thread nD τ) none) Set.univ (k v) Q)
        -∗ wp frame (wpE (defs₀ (F := F)) 𝒱₀ (c : Thread nD τ) none) Set.univ
            (.op (.load (e := .bf16) (Memref.whole (cc0_scratch0 : Ref sig .tc)) r hl) k) Q) := by
  unfold QAny
  iintro ⟨%A, H⟩ Hk
  iapply (wp_load 𝒱₀ (c : Thread nD τ) none Set.univ (m := Memref.whole (cc0_scratch0 : Ref sig .tc)) (S := Finset.univ) (f := A) (q := fullShare)
    (Finset.subset_univ _)) $$ H
  iintro H
  iapply Hk
  iexists A
  iexact H

/-- An array is its one full box. -/
theorem full_box {α : Type} (inb : ∀ a, (![0, 0] : Fin 2 → ℕ) a + S1024x1024.size a ≤ S1024x1024.size a) (g w : S1024x1024.Idx → α)
   (h : box (s := S1024x1024) g ![0, 0] S1024x1024.size inb = w) : g = w := by
  funext i
  refine Eq.trans (congrArg g (funext fun a => Fin.ext ?_)) (congrFun h i)
  show (i a).val = (![0, 0] : Fin 2 → ℕ) a + 1 * (i a).val
  fin_cases a <;> simp

/-- Store the projected queries. -/
theorem step_storeQ (c : Dev nD) {inb : ∀ a, (![0, 0] : Fin 2 → ℕ) a + S1024x1024.size a ≤ S1024x1024.size a} {w : FVec F S1024x1024 .bf16} (I : Ins F) (hw : w = qOf I c) {α : Type} {Q : α → sProp 𝕄}
    {hx : ((Memref.whole (cc0_scratch0 : Ref sig .tc)).access (Rect.unit (s := S1024x1024) ![0, 0] S1024x1024.size inb)).Stores Finset.univ}
    {hm : (Finset.univ : Finset (Rect.unit (s := S1024x1024) ![0, 0] S1024x1024.size inb).shape.Idx) = Finset.univ
      ∨ ∀ a, (Rect.unit (s := S1024x1024) ![0, 0] S1024x1024.size inb).stride a = 1}
    {k : PUnit → Prog (TpuEff nD τ sig (Elt F) Λ₀ Proc.tc) α} :
    QAny (F := F) c
      ⊢ iprop((pt (F := F) c cc0_scratch0 (qOf I c) -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole (cc0_scratch0 : Ref sig .tc)) (Rect.unit (s := S1024x1024) ![0, 0] S1024x1024.size inb) w Finset.univ hx hm) k) Q) := by
  subst hw
  unfold QAny
  iintro ⟨%A, H⟩ Hk
  iapply (wp_store 𝒱₀ (c : Thread nD τ) none Set.univ (m := Memref.whole (cc0_scratch0 : Ref sig .tc)) (r := Rect.unit (s := S1024x1024) ![0, 0] S1024x1024.size inb)
    (Mk := Finset.univ) (S := Finset.univ) (f := A) (Finset.subset_univ _)) $$ H
  iintro H
  iapply Hk
  have e := full_box inb _ _ (box_store_same (cc0_scratch0 : Ref sig .tc) ![0, 0] S1024x1024.size inb A (qOf I c))
  rw [e]
  iexact H

/-- Forget what the heads' buffer holds. -/
theorem ctx_any (c : Dev nD) (A : (cc0_scratch1 : Ref sig .tc).ty.Contents (Elt F)) :
  pt (F := F) c cc0_scratch1 A ⊢ iprop(∃ A', pt (F := F) c cc0_scratch1 A') := by
  iintro H; iexists A; iexact H

variable (I : Ins F) (c : Dev nD)

/-- The product's buffer, with the blocks `S` done. -/
def AccHas (S : Finset (Fin 4)) : sProp 𝕄 :=
  iprop(∃ A : FVec F S1024x1024 .f32, ⌜∀ b ∈ S, box (s := S1024x1024) A ![256 * b.val, 0] S256x1024.size (inb_blk b) = accBlk I c b⌝
    ∗ pt (F := F) c cc0_scratch2 A)

/-- The result's buffer, with the half blocks `S` stored. -/
def OutHas (S : Finset (Fin 4 × Bool)) : sProp 𝕄 :=
  iprop(∃ A : FVec F S1x1024x1024 .bf16, ⌜∀ p ∈ S, box (s := S1x1024x1024) A ![0, 256 * p.1.val + (if p.2 then 0 else 128), 0] S1x128x1024.size (inb_half3 p.1 p.2)
      = up (res I p.1 p.2)⌝
    ∗ pt (F := F) c cc0_stg5_0 A)

theorem AccHas_intro (A : FVec F S1024x1024 .f32) : pt (F := F) c cc0_scratch2 A ⊢ AccHas I c ∅ := by
  unfold AccHas
  iintro H; iexists A; isplitr
  · ipureintro; intro b hb; exact absurd hb (Finset.notMem_empty b)
  iexact H

theorem AccHas_any (S : Finset (Fin 4)) : AccHas I c S ⊢ iprop(∃ A, pt (F := F) c cc0_scratch2 A) := by
  unfold AccHas
  iintro ⟨%A, -, H⟩; iexists A; iexact H

theorem OutHas_intro (A : FVec F S1x1024x1024 .bf16) : pt (F := F) c cc0_stg5_0 A ⊢ OutHas I c ∅ := by
  unfold OutHas
  iintro H; iexists A; isplitr
  · ipureintro; intro b hb; exact absurd hb (Finset.notMem_empty b)
  iexact H

/-- Read the product's buffer where nothing is asked of what is read. -/
theorem step_loadAcc (S : Finset (Fin 4)) {r : LoadRect S1024x1024} {α : Type} {Q : α → sProp 𝕄}
    {hl : (Memref.whole (cc0_scratch2 : Ref sig .tc)).view.LoadsAt r}
    {k : (r.shape.Idx → Elt F .f32) → Prog (TpuEff nD τ sig (Elt F) Λ₀ Proc.tc) α} :
    AccHas I c S
      ⊢ iprop((∀ v, AccHas I c S -∗ wp frame (wpE (defs₀ (F := F)) 𝒱₀ (c : Thread nD τ) none) Set.univ (k v) Q)
        -∗ wp frame (wpE (defs₀ (F := F)) 𝒱₀ (c : Thread nD τ) none) Set.univ
            (.op (.load (e := .f32) (Memref.whole (cc0_scratch2 : Ref sig .tc)) r hl) k) Q) := by
  unfold AccHas
  iintro ⟨%A, %hA, H⟩ Hk
  iapply (wp_load 𝒱₀ (c : Thread nD τ) none Set.univ (m := Memref.whole (cc0_scratch2 : Ref sig .tc)) (S := Finset.univ) (f := A) (q := fullShare)
    (Finset.subset_univ _)) $$ H
  iintro H
  iapply Hk
  iexists A; isplitr; · ipureintro; exact hA
  iexact H

/-- Read half a block that is done. -/
theorem step_loadHalf (S : Finset (Fin 4)) (d : Bool) (b : Fin 4) (hb : b ∈ S) {off : Fin 2 → ℕ} {inb : ∀ a, off a + S128x1024.size a ≤ S1024x1024.size a}
    (ho : off = ![256 * b.val + (if d then 0 else 128), 0]) {α : Type} {Q : α → sProp 𝕄}
    {hl : (Memref.whole (cc0_scratch2 : Ref sig .tc)).view.LoadsAt (Rect.unit (s := S1024x1024) off S128x1024.size inb).toLoadRect}
    {k : FVec F S128x1024 .f32 → Prog (TpuEff nD τ sig (Elt F) Λ₀ Proc.tc) α} :
    AccHas I c S
      ⊢ iprop((AccHas I c S -∗ wp frame (wpE (defs₀ (F := F)) 𝒱₀ (c : Thread nD τ) none) Set.univ (k (chunk I d c b)) Q)
        -∗ wp frame (wpE (defs₀ (F := F)) 𝒱₀ (c : Thread nD τ) none) Set.univ
            (.op (.load (e := .f32) (Memref.whole (cc0_scratch2 : Ref sig .tc)) (Rect.unit (s := S1024x1024) off S128x1024.size inb).toLoadRect hl) k) Q) := by
  unfold AccHas
  iintro ⟨%A, %hA, H⟩ Hk
  iapply (wp_load 𝒱₀ (c : Thread nD τ) none Set.univ (m := Memref.whole (cc0_scratch2 : Ref sig .tc)) (S := Finset.univ) (f := A) (q := fullShare)
    (Finset.subset_univ _)) $$ H
  iintro H
  rw [show (Memref.whole (cc0_scratch2 : Ref sig .tc)).view.readAt (Elt F) (Rect.unit (s := S1024x1024) off S128x1024.size inb).toLoadRect A = chunk I d c b from by
    subst ho
    refine Eq.trans ?_ (congrArg (fun X => box (s := S256x1024) X ![(if d then 0 else 128), 0] S128x1024.size (inb_halfOf d)) (hA b hb))
    funext i
    refine congrArg A (funext fun a => Fin.ext ?_)
    show (![256 * b.val + (if d then 0 else 128), 0] : Fin 2 → ℕ) a + 1 * (i a).val
      = (![256 * b.val, 0] : Fin 2 → ℕ) a + 1 * ((![(if d then 0 else 128), 0] : Fin 2 → ℕ) a + 1 * (i a).val)
    fin_cases a <;> simp <;> omega]
  iapply Hk
  iexists A; isplitr; · ipureintro; exact hA
  iexact H

/-- Store a block. -/
theorem step_storeAcc (S : Finset (Fin 4)) (b : Fin 4) {off : Fin 2 → ℕ} {inb : ∀ a, off a + S256x1024.size a ≤ S1024x1024.size a}
    (ho : off = ![256 * b.val, 0]) {w : FVec F S256x1024 .f32} (hw : w = accBlk I c b) {α : Type} {Q : α → sProp 𝕄}
    {hx : ((Memref.whole (cc0_scratch2 : Ref sig .tc)).access (Rect.unit (s := S1024x1024) off S256x1024.size inb)).Stores Finset.univ}
    {hm : (Finset.univ : Finset (Rect.unit (s := S1024x1024) off S256x1024.size inb).shape.Idx) = Finset.univ
      ∨ ∀ a, (Rect.unit (s := S1024x1024) off S256x1024.size inb).stride a = 1}
    {k : PUnit → Prog (TpuEff nD τ sig (Elt F) Λ₀ Proc.tc) α} :
    AccHas I c S
      ⊢ iprop((AccHas I c (insert b S) -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole (cc0_scratch2 : Ref sig .tc)) (Rect.unit (s := S1024x1024) off S256x1024.size inb) w Finset.univ hx hm) k) Q) := by
  subst ho hw
  unfold AccHas
  iintro ⟨%A, %hA, H⟩ Hk
  iapply (wp_store 𝒱₀ (c : Thread nD τ) none Set.univ (m := Memref.whole (cc0_scratch2 : Ref sig .tc)) (r := Rect.unit (s := S1024x1024) ![256 * b.val, 0] S256x1024.size inb)
    (Mk := Finset.univ) (S := Finset.univ) (f := A) (Finset.subset_univ _)) $$ H
  iintro H
  iapply Hk
  iexists _; isplitr
  · ipureintro
    intro b' hb'
    by_cases hbb : b' = b
    · subst hbb; exact box_store_same (cc0_scratch2 : Ref sig .tc) ![256 * b'.val, 0] S256x1024.size inb A _
    · refine (box_store_other (cc0_scratch2 : Ref sig .tc) ![256 * b.val, 0] ![256 * b'.val, 0] S256x1024.size S256x1024.size inb (inb_blk b') A _
        (0 : Fin 2) ?_).trans (hA b' (Finset.mem_of_mem_insert_of_ne hb' hbb))
      show 256 * b'.val + 256 ≤ 256 * b.val ∨ 256 * b.val + 256 ≤ 256 * b'.val
      have := Fin.val_ne_of_ne hbb
      omega
  iexact H

/-- Read the result's buffer where nothing is asked of what is read. -/
theorem step_loadOut (S : Finset (Fin 4 × Bool)) {r : LoadRect S1x1024x1024} {α : Type} {Q : α → sProp 𝕄}
    {hl : (Memref.whole (cc0_stg5_0 : Ref sig .tc)).view.LoadsAt r}
    {k : (r.shape.Idx → Elt F .bf16) → Prog (TpuEff nD τ sig (Elt F) Λ₀ Proc.tc) α} :
    OutHas I c S
      ⊢ iprop((∀ v, OutHas I c S -∗ wp frame (wpE (defs₀ (F := F)) 𝒱₀ (c : Thread nD τ) none) Set.univ (k v) Q)
        -∗ wp frame (wpE (defs₀ (F := F)) 𝒱₀ (c : Thread nD τ) none) Set.univ
            (.op (.load (Memref.whole (cc0_stg5_0 : Ref sig .tc)) r hl) k) Q) := by
  unfold OutHas
  iintro ⟨%A, %hA, H⟩ Hk
  iapply (wp_load 𝒱₀ (c : Thread nD τ) none Set.univ (m := Memref.whole (cc0_stg5_0 : Ref sig .tc)) (S := Finset.univ) (f := A) (q := fullShare)
    (Finset.subset_univ _)) $$ H
  iintro H
  iapply Hk
  iexists A; isplitr; · ipureintro; exact hA
  iexact H

/-- Store a half block of the result. -/
theorem step_storeOut (S : Finset (Fin 4 × Bool)) (b : Fin 4) (d : Bool) {off : Fin 3 → ℕ} {inb : ∀ a, off a + S1x128x1024.size a ≤ S1x1024x1024.size a}
    (ho : off = ![0, 256 * b.val + (if d then 0 else 128), 0]) {w : FVec F S1x128x1024 .bf16} (hw : w = up (res I b d)) {α : Type} {Q : α → sProp 𝕄}
    {hx : ((Memref.whole (cc0_stg5_0 : Ref sig .tc)).access (Rect.unit (s := S1x1024x1024) off S1x128x1024.size inb)).Stores Finset.univ}
    {hm : (Finset.univ : Finset (Rect.unit (s := S1x1024x1024) off S1x128x1024.size inb).shape.Idx) = Finset.univ
      ∨ ∀ a, (Rect.unit (s := S1x1024x1024) off S1x128x1024.size inb).stride a = 1}
    {k : PUnit → Prog (TpuEff nD τ sig (Elt F) Λ₀ Proc.tc) α} :
    OutHas I c S
      ⊢ iprop((OutHas I c (insert (b, d) S) -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole (cc0_stg5_0 : Ref sig .tc)) (Rect.unit (s := S1x1024x1024) off S1x128x1024.size inb) w Finset.univ hx hm) k) Q) := by
  subst ho hw
  unfold OutHas
  iintro ⟨%A, %hA, H⟩ Hk
  iapply (wp_store 𝒱₀ (c : Thread nD τ) none Set.univ (m := Memref.whole (cc0_stg5_0 : Ref sig .tc))
    (r := Rect.unit (s := S1x1024x1024) ![0, 256 * b.val + (if d then 0 else 128), 0] S1x128x1024.size inb)
    (Mk := Finset.univ) (S := Finset.univ) (f := A) (Finset.subset_univ _)) $$ H
  iintro H
  iapply Hk
  iexists _; isplitr
  · ipureintro
    rintro ⟨b', d'⟩ hb'
    by_cases hbb : ((b', d') : Fin 4 × Bool) = (b, d)
    · obtain ⟨rfl, rfl⟩ := Prod.mk.inj hbb
      exact box_store_same (cc0_stg5_0 : Ref sig .tc) ![0, 256 * b'.val + (if d' then 0 else 128), 0] S1x128x1024.size inb A _
    · refine (box_store_other (cc0_stg5_0 : Ref sig .tc) ![0, 256 * b.val + (if d then 0 else 128), 0] ![0, 256 * b'.val + (if d' then 0 else 128), 0]
        S1x128x1024.size S1x128x1024.size inb (inb_half3 b' d') A _
        (1 : Fin 3) ?_).trans (hA (b', d') (Finset.mem_of_mem_insert_of_ne hb' hbb))
      show 256 * b'.val + (if d' then 0 else 128) + 128 ≤ 256 * b.val + (if d then 0 else 128)
        ∨ 256 * b.val + (if d then 0 else 128) + 128 ≤ 256 * b'.val + (if d' then 0 else 128)
      by_cases hb2 : b' = b
      · subst hb2
        have : d' ≠ d := fun e => hbb (by rw [e])
        cases d <;> cases d' <;> simp at this ⊢
      · have := Fin.val_ne_of_ne hb2
        cases d <;> cases d' <;> simp <;> omega
  iexact H

/-- With every half block stored the buffer is the result. -/
theorem OutHas_final : OutHas I c Finset.univ ⊢ pt (F := F) c cc0_stg5_0 (finalOut I) := by
  unfold OutHas
  iintro ⟨%A, %hA, H⟩
  have hf : A = finalOut I := by
    funext i
    have h1 : (i 1).val < 1024 := (i 1).isLt
    have h0 : (i 0).val < 1 := (i 0).isLt
    have hh := congrFun (hA (⟨(i 1).val / 256, by omega⟩, decide ((i 1).val % 256 < 128)) (Finset.mem_univ _))
      (Fin.cons (0 : Fin 1) (Fin.cons (⟨(i 1).val % 128, Nat.mod_lt _ (by decide)⟩ : Fin 128) (Fin.cons (i 2) finZeroElim)))
    refine Eq.trans (congrArg A (funext fun a => Fin.ext ?_)) (hh.trans ?_)
    · fin_cases a
      · show (i 0).val = 0 + 1 * 0
        omega
      · show (i 1).val = 256 * ((i 1).val / 256) + (if decide ((i 1).val % 256 < 128) then 0 else 128) + 1 * ((i 1).val % 128)
        by_cases h : (i 1).val % 256 < 128 <;> simp [h] <;> omega
      · show (i 2).val = 0 + 1 * (i 2).val
        omega
    · refine congrArg (res I _ _) (Shape.reshapeEquiv_eq_of_rowMajor _ ?_)
      rw [Shape.rowMajor_val_two, Shape.rowMajor_val_three]
      show (i 1).val % 128 * 1024 + (i 2).val = (0 * 128 + (i 1).val % 128) * 1024 + (i 2).val
      omega
  subst hf
  iexact H

end Cert.KernelIdeal.Ring

end
-- ==== Proof.Body.lean ====
/-
  One device's run of the kernel: from its operands, its slots and the tokens of its transfers to the result.
-/
module

public import proofs.«01_k».proof.Proof.Bufs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## Where the accesses lie -/

/-- Block `c`: where its queries lie, by head. -/
def oqA (c : Dev nD) : Fin 8 → Fin 2 → ℕ := ![k0_off1 c, k0_off3 c, k0_off5 c, k0_off7 c, k0_off9 c, k0_off11 c, k0_off13 c, k0_off15 c]
/-- And its keys and values. -/
def okA (c : Dev nD) : Fin 8 → Fin 2 → ℕ := ![k0_off2 c, k0_off4 c, k0_off6 c, k0_off8 c, k0_off10 c, k0_off12 c, k0_off14 c, k0_off16 c]
theorem hqA : ∀ c h, oqA c h = ![256 * (c).val, 128 * h.val] := by decide +kernel
theorem hkA : ∀ c h, okA c h = ![min 512 (256 * (c).val - 128), 128 * h.val] := by decide +kernel
theorem iqA (c : Dev nD) (h : Fin 8) (a) : oqA c h a + S256x128.size a ≤ S1024x1024.size a := by rw [hqA]; exact inb_qh (c) h a
theorem ikA (c : Dev nD) (h : Fin 8) (a) : okA c h a + S512x128.size a ≤ S1024x1024.size a := by rw [hkA]; exact inb_kh (c) h a
theorem oaA : ∀ c : Dev nD, k0_off17 c = ![256 * (c).val, 0] := by decide +kernel

/-- Block `prv c`: where its queries lie, by head. -/
def oqB (c : Dev nD) : Fin 8 → Fin 2 → ℕ := ![k0_off20 c 1#32, k0_off22 c 1#32, k0_off24 c 1#32, k0_off26 c 1#32, k0_off28 c 1#32, k0_off30 c 1#32, k0_off32 c 1#32, k0_off34 c 1#32]
/-- And its keys and values. -/
def okB (c : Dev nD) : Fin 8 → Fin 2 → ℕ := ![k0_off21 c 1#32, k0_off23 c 1#32, k0_off25 c 1#32, k0_off27 c 1#32, k0_off29 c 1#32, k0_off31 c 1#32, k0_off33 c 1#32, k0_off35 c 1#32]
theorem hqB : ∀ c h, oqB c h = ![256 * (prv c).val, 128 * h.val] := by decide +kernel
theorem hkB : ∀ c h, okB c h = ![min 512 (256 * (prv c).val - 128), 128 * h.val] := by decide +kernel
theorem iqB (c : Dev nD) (h : Fin 8) (a) : oqB c h a + S256x128.size a ≤ S1024x1024.size a := by rw [hqB]; exact inb_qh (prv c) h a
theorem ikB (c : Dev nD) (h : Fin 8) (a) : okB c h a + S512x128.size a ≤ S1024x1024.size a := by rw [hkB]; exact inb_kh (prv c) h a
theorem oaB : ∀ c : Dev nD, k0_off36 c 1#32 = ![256 * (prv c).val, 0] := by decide +kernel

/-- Block `nxt c`: where its queries lie, by head. -/
def oqC (c : Dev nD) : Fin 8 → Fin 2 → ℕ := ![k0_off37 c, k0_off39 c, k0_off41 c, k0_off43 c, k0_off45 c, k0_off47 c, k0_off49 c, k0_off51 c]
/-- And its keys and values. -/
def okC (c : Dev nD) : Fin 8 → Fin 2 → ℕ := ![k0_off38 c, k0_off40 c, k0_off42 c, k0_off44 c, k0_off46 c, k0_off48 c, k0_off50 c, k0_off52 c]
theorem hqC : ∀ c h, oqC c h = ![256 * (nxt c).val, 128 * h.val] := by decide +kernel
theorem hkC : ∀ c h, okC c h = ![min 512 (256 * (nxt c).val - 128), 128 * h.val] := by decide +kernel
theorem iqC (c : Dev nD) (h : Fin 8) (a) : oqC c h a + S256x128.size a ≤ S1024x1024.size a := by rw [hqC]; exact inb_qh (nxt c) h a
theorem ikC (c : Dev nD) (h : Fin 8) (a) : okC c h a + S512x128.size a ≤ S1024x1024.size a := by rw [hkC]; exact inb_kh (nxt c) h a
theorem oaC : ∀ c : Dev nD, k0_off53 c = ![256 * (nxt c).val, 0] := by decide +kernel

/-- Block `prv (prv c)`: where its queries lie, by head. -/
def oqD (c : Dev nD) : Fin 8 → Fin 2 → ℕ := ![k0_off20 c 2#32, k0_off22 c 2#32, k0_off24 c 2#32, k0_off26 c 2#32, k0_off28 c 2#32, k0_off30 c 2#32, k0_off32 c 2#32, k0_off34 c 2#32]
/-- And its keys and values. -/
def okD (c : Dev nD) : Fin 8 → Fin 2 → ℕ := ![k0_off21 c 2#32, k0_off23 c 2#32, k0_off25 c 2#32, k0_off27 c 2#32, k0_off29 c 2#32, k0_off31 c 2#32, k0_off33 c 2#32, k0_off35 c 2#32]
theorem hqD : ∀ c h, oqD c h = ![256 * (prv (prv c)).val, 128 * h.val] := by decide +kernel
theorem hkD : ∀ c h, okD c h = ![min 512 (256 * (prv (prv c)).val - 128), 128 * h.val] := by decide +kernel
theorem iqD (c : Dev nD) (h : Fin 8) (a) : oqD c h a + S256x128.size a ≤ S1024x1024.size a := by rw [hqD]; exact inb_qh (prv (prv c)) h a
theorem ikD (c : Dev nD) (h : Fin 8) (a) : okD c h a + S512x128.size a ≤ S1024x1024.size a := by rw [hkD]; exact inb_kh (prv (prv c)) h a
theorem oaD : ∀ c : Dev nD, k0_off36 c 2#32 = ![256 * (prv (prv c)).val, 0] := by decide +kernel

/-! The masks: a device's own number is its number, so the block after or before it has its block's mask. -/

/-- Device `c`'s number, as the kernel computes it. -/
def numW (c : Dev nD) : BitVec 32 := Scalar.remsi (Scalar.divsi (Dev.word c) 1#32) 4#32
/-- The first row of a block, from its number before the remainder is taken. -/
def rowW (v : BitVec 32) : BitVec 32 := Scalar.muli (Scalar.remsi (Scalar.addi v 4#32) 4#32) 256#32
/-- The mask of the block whose first row is `r`. -/
def maskW (r : BitVec 32) : IVec S256x512 1 :=
  cmpi .sle (absi (subi (addi (iota .tc S256x512 32 [0] iota_S256x512_d0_w32) (broadcast S256x512 r))
    (addi (iota .tc S256x512 32 [1] iota_S256x512_d1_w32) (broadcast S256x512 (Scalar.minsi 512#32 (Scalar.maxsi 0#32 (Scalar.subi r 128#32)))))))
    (broadcast S256x512 128#32)
theorem mask_A (c : Dev nD) : maskW (rowW (numW c)) = k0_pay3 c := rfl
theorem mask_B (c : Dev nD) : maskW (rowW (Scalar.subi (numW c) 1#32)) = k0_pay3 (prv c) := by
  rw [← mask_A, show rowW (Scalar.subi (numW c) 1#32) = rowW (numW (prv c)) by revert c; decide +kernel]
theorem mask_C (c : Dev nD) : maskW (rowW (Scalar.addi (numW c) 1#32)) = k0_pay3 (nxt c) := by
  rw [← mask_A, show rowW (Scalar.addi (numW c) 1#32) = rowW (numW (nxt c)) by revert c; decide +kernel]
theorem mask_D (c : Dev nD) : maskW (rowW (Scalar.subi (numW c) 2#32)) = k0_pay3 (prv (prv c)) := by
  rw [← mask_A, show rowW (Scalar.subi (numW c) 2#32) = rowW (numW (prv (prv c))) by revert c; decide +kernel]

theorem ol_true0 : ∀ c : Dev nD, k0_off18 c = ![256 * (back true 0 c).val + (if true then 0 else 128), 0] := by decide +kernel
theorem ol_false0 : ∀ c : Dev nD, k0_off19 c = ![256 * (back false 0 c).val + (if false then 0 else 128), 0] := by decide +kernel
theorem ol_true1 : ∀ c : Dev nD, k0_off54 c 1#32 = ![256 * (back true 1 c).val + (if true then 0 else 128), 0] := by decide +kernel
theorem ol_false1 : ∀ c : Dev nD, k0_off55 c 1#32 = ![256 * (back false 1 c).val + (if false then 0 else 128), 0] := by decide +kernel
theorem ol_true2 : ∀ c : Dev nD, k0_off54 c 2#32 = ![256 * (back true 2 c).val + (if true then 0 else 128), 0] := by decide +kernel
theorem ol_false2 : ∀ c : Dev nD, k0_off55 c 2#32 = ![256 * (back false 2 c).val + (if false then 0 else 128), 0] := by decide +kernel
theorem ol_true3 : ∀ c : Dev nD, k0_off56 c = ![256 * (back true 3 c).val + (if true then 0 else 128), 0] := by decide +kernel
theorem ol_false3 : ∀ c : Dev nD, k0_off57 c = ![256 * (back false 3 c).val + (if false then 0 else 128), 0] := by decide +kernel
theorem os_true3 : ∀ c : Dev nD, k0_off58 c = ![0, 256 * (nxt c).val + (if true then 0 else 128), 0] := by decide +kernel
theorem os_false3 : ∀ c : Dev nD, k0_off59 c = ![0, 256 * (prv c).val + (if false then 0 else 128), 0] := by decide +kernel
theorem os_true4 : ∀ c : Dev nD, k0_off60 c 0#32 = ![0, 256 * (c).val + (if true then 0 else 128), 0] := by decide +kernel
theorem os_false4 : ∀ c : Dev nD, k0_off61 c 0#32 = ![0, 256 * (c).val + (if false then 0 else 128), 0] := by decide +kernel
theorem os_true5 : ∀ c : Dev nD, k0_off60 c 1#32 = ![0, 256 * (prv c).val + (if true then 0 else 128), 0] := by decide +kernel
theorem os_false5 : ∀ c : Dev nD, k0_off61 c 1#32 = ![0, 256 * (nxt c).val + (if false then 0 else 128), 0] := by decide +kernel
theorem os_true6 : ∀ c : Dev nD, k0_off60 c 2#32 = ![0, 256 * (prv (prv c)).val + (if true then 0 else 128), 0] := by decide +kernel
theorem os_false6 : ∀ c : Dev nD, k0_off61 c 2#32 = ![0, 256 * (nxt (nxt c)).val + (if false then 0 else 128), 0] := by decide +kernel
theorem mem_true0 : ∀ c : Dev nD, back true 0 c ∈ ((insert (c) ∅) : Finset (Fin 4)) := by decide +kernel
theorem mem_true1 : ∀ c : Dev nD, back true 1 c ∈ ((insert (nxt c) (insert (prv c) (insert (c) ∅))) : Finset (Fin 4)) := by decide +kernel
theorem mem_true2 : ∀ c : Dev nD, back true 2 c ∈ ((insert (prv (prv c)) (insert (nxt c) (insert (prv c) (insert (c) ∅)))) : Finset (Fin 4)) := by decide +kernel
theorem mem_true3 : ∀ c : Dev nD, back true 3 c ∈ ((insert (prv (prv c)) (insert (nxt c) (insert (prv c) (insert (c) ∅)))) : Finset (Fin 4)) := by decide +kernel
theorem mem_false0 : ∀ c : Dev nD, back false 0 c ∈ ((insert (c) ∅) : Finset (Fin 4)) := by decide +kernel
theorem mem_false1 : ∀ c : Dev nD, back false 1 c ∈ ((insert (nxt c) (insert (prv c) (insert (c) ∅))) : Finset (Fin 4)) := by decide +kernel
theorem mem_false2 : ∀ c : Dev nD, back false 2 c ∈ ((insert (prv (prv c)) (insert (nxt c) (insert (prv c) (insert (c) ∅)))) : Finset (Fin 4)) := by decide +kernel
theorem mem_false3 : ∀ c : Dev nD, back false 3 c ∈ ((insert (prv (prv c)) (insert (nxt c) (insert (prv c) (insert (c) ∅)))) : Finset (Fin 4)) := by decide +kernel
theorem all_out : ∀ c : Dev nD, ((insert ((nxt (nxt c)), false) (insert ((prv (prv c)), true) (insert ((nxt c), false) (insert ((prv c), true) (insert ((c), false) (insert ((c), true) (insert ((prv c), false) (insert ((nxt c), true) ∅)))))))) : Finset (Fin 4 × Bool)) = Finset.univ := by decide +kernel

/-! ## What is sent and stored -/

section

variable [FloatOps F] [Named F] (I : Ins F)

theorem hop_first (d : Bool) (c : Dev nD) :
    up (truncf .bf16 (chunk I d c (back d 0 c)) bitsLt_bf16_f32) = up (hopN I d 0 c) := rfl

theorem hop_next (d : Bool) (n : ℕ) (hn : n + 1 ≤ 3) (c : Dev nD) :
    up (truncf .bf16 (addf (chunk I d c (back d (n + 1) c)) (extf .f32 (down (up (hopN I d n (from_ d c)))) bitsLt_bf16_f32)) bitsLt_bf16_f32)
      = up (hopN I d (n + 1) c) := by
  rw [down_up]
  exact congrArg up (if_pos hn).symm

theorem hop_late (d : Bool) (n : ℕ) (hn : ¬ n + 1 ≤ 3) (c : Dev nD) : hopN I d (n + 1) c = hopN I d n (from_ d c) := if_neg hn

theorem res_3t (c : Dev nD) : hopN I true 3 c = res I (nxt c) true := congrArg (hopN I true 3) (prv_nxt c).symm
theorem res_3f (c : Dev nD) : hopN I false 3 c = res I (prv c) false := congrArg (hopN I false 3) (nxt_prv c).symm
theorem res_4 (d : Bool) (c : Dev nD) : up (down (up (hopN I d 3 (from_ d c)))) = up (res I c d) := congrArg up (down_up _)
theorem res_5 (d : Bool) (c : Dev nD) : up (down (up (hopN I d 4 (from_ d c)))) = up (res I (from_ d c) d) :=
  congrArg up ((down_up _).trans (hop_late I d 3 (by decide) _))
theorem res_6 (d : Bool) (c : Dev nD) : up (down (up (hopN I d 5 (from_ d c)))) = up (res I (from_ d (from_ d c)) d) :=
  congrArg up ((down_up _).trans ((hop_late I d 4 (by decide) _).trans (hop_late I d 3 (by decide) _)))

end

/-! ## Slots -/

/-- A slot's contents, restated. -/
theorem sAt_as (m : Memref sig .tc .vmem S128x1024 .bf16) (c : Dev nD) (q : PosShare TreeShare) {v w : FVec F S128x1024 .bf16} (h : v = w) :
    sAt m c q v ⊢ sAt m c q w := by subst h; exact .rfl

/-- A returned value goes on to what follows. -/
theorem step_ret [FloatOps F] [Named F] {α β : Type} (c : Dev nD) (a : α) (k : α → Prog _ β) (Q : β → sProp 𝕄) :
    wp frame (wpE (defs₀ (F := F)) 𝒱₀ c none) Set.univ (k a) Q ⊢ wp frame (wpE (defs₀ (F := F)) 𝒱₀ c none) Set.univ ((Prog.ret a).bind k) Q := .rfl

/-- A receive slot, named in its buffer. -/
theorem slot_true [FloatOps F] [Named F] (I : Ins F) (c c' : Dev nD) (s : Fin 6) (n : ℕ) (h : s.val = n) (q : PosShare TreeShare) :
    sAt (rM true s) c q (hop I true s c') ⊢ sAt (slot6 (Memref.whole cc0_scratch4) s) c q (hopN I true n c') := by subst h; exact .rfl
theorem unslot_true [FloatOps F] [Named F] (I : Ins F) (c c' : Dev nD) (s : Fin 6) (n : ℕ) (h : s.val = n) (q : PosShare TreeShare) :
    sAt (slot6 (Memref.whole cc0_scratch4) s) c q (hopN I true n c') ⊢ sAt (rM true s) c q (hop I true s c') := by subst h; exact .rfl

/-- A receive slot, named in its buffer. -/
theorem slot_false [FloatOps F] [Named F] (I : Ins F) (c c' : Dev nD) (s : Fin 6) (n : ℕ) (h : s.val = n) (q : PosShare TreeShare) :
    sAt (rM false s) c q (hop I false s c') ⊢ sAt (slot6 (Memref.whole cc0_scratch6) s) c q (hopN I false n c') := by subst h; exact .rfl
theorem unslot_false [FloatOps F] [Named F] (I : Ins F) (c c' : Dev nD) (s : Fin 6) (n : ℕ) (h : s.val = n) (q : PosShare TreeShare) :
    sAt (slot6 (Memref.whole cc0_scratch6) s) c q (hopN I false n c') ⊢ sAt (rM false s) c q (hop I false s c') := by subst h; exact .rfl

/-- What came in last goes on as it is. -/
theorem pass_on [FloatOps F] [Named F] (I : Ins F) (c : Dev nD) (d : Bool) (s t : Fin 6) (ht : t.val = s.val + 1) (hs : ¬ s.val + 1 ≤ 3) (m : Memref sig .tc .vmem S128x1024 .bf16) :
    sAt m c fullShare.left (hop I d s (from_ d c)) ⊢ sAt m c fullShare.left (hop I d t c) :=
  sAt_as m c fullShare.left (by unfold hop; rw [ht]; exact (hop_late I d s.val hs c).symm)

/-- A program that has ended. -/
theorem step_end [FloatOps F] [Named F] {α : Type} (c : Dev nD) (a : α) (Q : α → sProp 𝕄) :
    Q a ⊢ wp frame (wpE (defs₀ (F := F)) 𝒱₀ c none) Set.univ (Prog.ret a) Q := fupd_intro (PROP := sProp 𝕄)

/-- A slot at full share is two halves. -/
theorem sAt_split (m : Memref sig .tc .vmem S128x1024 .bf16) (c : Dev nD) (w : FVec F S128x1024 .bf16) :
    sAt m c fullShare w ⊢ iprop(sAt m c fullShare.left w ∗ sAt m c fullShare.right w) := by
  unfold sAt
  iintro ⟨%f, %hf, H⟩
  ihave H2 := (pointsTo_share (PosShare.mem_left_op_right fullShare)).1 $$ H
  icases H2 with ⟨H1, H2⟩
  isplitl [H1]
  · iexists f; isplitr; · ipureintro; exact hf
    iexact H1
  · iexists f; isplitr; · ipureintro; exact hf
    iexact H2

/-- Store a send slot, the value restated. -/
theorem step_store4' [FloatOps F] [Named F] (c : Dev nD) (m : Memref sig .tc .vmem S4x128x1024 .bf16) (s : Fin 4) (v : FVec F S128x1024 .bf16)
    {w : FVec F S1x128x1024 .bf16} (hw : w = up v) {α : Type} {Q : α → sProp 𝕄}
    {hx : (m.access (Rect.unit (s := S4x128x1024) ![s.val, 0, 0] S1x128x1024.size (inb_slot4 s))).Stores Finset.univ}
    {hm : (Finset.univ : Finset (Rect.unit (s := S4x128x1024) ![s.val, 0, 0] S1x128x1024.size (inb_slot4 s)).shape.Idx) = Finset.univ
      ∨ ∀ a, (Rect.unit (s := S4x128x1024) ![s.val, 0, 0] S1x128x1024.size (inb_slot4 s)).stride a = 1}
    {k : PUnit → Prog (TpuEff nD τ sig (Elt F) Λ₀ Proc.tc) α} :
    sAny (F := F) (slot4 m s) c
      ⊢ iprop((sAt (slot4 m s) c fullShare v -∗ wp frame (wpE (defs₀ (F := F)) 𝒱₀ (c : Thread nD τ) none) Set.univ (k ⟨⟩) Q)
        -∗ wp frame (wpE (defs₀ (F := F)) 𝒱₀ (c : Thread nD τ) none) Set.univ
            (.op (.store m (Rect.unit (s := S4x128x1024) ![s.val, 0, 0] S1x128x1024.size (inb_slot4 s)) w Finset.univ hx hm) k) Q) := by
  subst hw
  have h := step_store4 c m s (up v) (hx := hx) (hm := hm) (k := k) (Q := Q)
  rwa [down_up] at h

/-- Six of them. -/
abbrev six (P : Fin 6 → sProp 𝕄) : sProp 𝕄 := iprop(P 0 ∗ P 1 ∗ P 2 ∗ P 3 ∗ P 4 ∗ P 5)
/-- Four of them. -/
abbrev four (P : Fin 4 → sProp 𝕄) : sProp 𝕄 := iprop(P 0 ∗ P 1 ∗ P 2 ∗ P 3)

theorem six_eq (P : Fin 6 → sProp 𝕄) : (bigSep Finset.univ P : sProp 𝕄) = six P := by
  unfold six
  rw [show (Finset.univ : Finset (Fin 6)) = {0, 1, 2, 3, 4, 5} from by decide, bigSep_insert (by decide), bigSep_insert (by decide),
    bigSep_insert (by decide), bigSep_insert (by decide), bigSep_insert (by decide), bigSep_singleton]
  rfl

/-- What the barrier hands over, by stage. -/
theorem barPay_six (c : Dev nD) (d : Bool) : barPay (F := F) c d ⊢ six fun s => Tgt d s c :=
  Entails.of_eq (six_eq fun s => Tgt d s c)

variable [FloatOps F] [Named F] (I : Ins F)

/-- What a device starts its run with. -/
def Start (K : GSem nD τ sig → ℕ) (c : Dev nD) : sProp 𝕄 :=
  iprop(records (hop I) K ∗ levAts L lv ∗ pt (F := F) c cc0_stg0_0 (I.x c) ∗ pt (F := F) c cc0_stg1_0 (I.wq c) ∗ pt (F := F) c cc0_stg2_0 (I.k c)
    ∗ pt (F := F) c cc0_stg3_0 (I.v c) ∗ pt (F := F) c cc0_stg4_0 (I.wo c) ∗ OutHas I c ∅
    ∗ QAny (F := F) c ∗ (∃ f, pt (F := F) c cc0_scratch1 f) ∗ AccHas I c ∅
    ∗ ow c (O₀ c) ∗ dutyTok ER (barCell (from_ true c)) 0 true ∗ dutyTok ER (barCell (from_ false c)) 0 false
    ∗ (bigSep Finset.univ fun s : Fin 6 => iprop(sAny (rM true s) c ∗ reached ER (recvCell true s c) 0))
    ∗ (bigSep Finset.univ fun s : Fin 6 => iprop(sAny (rM false s) c ∗ reached ER (recvCell false s c) 0))
    ∗ cred (tallyAt (barCell c) () 2) ∗ atPos ER (barCell c) 0 ∅ 0
    ∗ (four fun s => sAny (sM true s) c) ∗ (four fun s => sAny (sM false s) c)
    ∗ (six fun s => Stg true s c) ∗ (six fun s => Stg false s c))

/-- What it ends with. -/
def Finish (c : Dev nD) : sProp 𝕄 :=
  iprop(pt (F := F) c cc0_stg0_0 (I.x c) ∗ pt (F := F) c cc0_stg1_0 (I.wq c) ∗ pt (F := F) c cc0_stg2_0 (I.k c)
    ∗ pt (F := F) c cc0_stg3_0 (I.v c) ∗ pt (F := F) c cc0_stg4_0 (I.wo c) ∗ pt (F := F) c cc0_stg5_0 (finalOut I)
    ∗ (∃ f, pt (F := F) c cc0_scratch0 f) ∗ (∃ f, pt (F := F) c cc0_scratch1 f) ∗ (∃ f, pt (F := F) c cc0_scratch2 f)
    ∗ ow c 0 ∗ semVal (barCell c) 0
    ∗ (four fun s => sAny (sM true s) c) ∗ (four fun s => sAny (sM false s) c)
    ∗ (six fun s => sAny (rM true s) c) ∗ (six fun s => sAny (rM false s) c)
    ∗ (six fun s => semVal (sendCell true s c) 0) ∗ (six fun s => semVal (sendCell false s c) 0)
    ∗ (six fun s => semVal (recvCell true s c) 0) ∗ (six fun s => semVal (recvCell false s c) 0))

/-- The two halves of a slot, back at full share. -/
theorem sAt_join (m : Memref sig .tc .vmem S128x1024 .bf16) (c : Dev nD) (v w : FVec F S128x1024 .bf16) :
    iprop(sAt m c fullShare.left v ∗ sAt m c fullShare.right w) ⊢ sAny (F := F) m c := by
  unfold sAt sAny
  iintro ⟨⟨%f, -, H1⟩, ⟨%g, -, H2⟩⟩
  ihave %he := (pointsTo_agree (f := f) (g := g)) $$ [H1 H2]
  · isplitl [H1] <;> iassumption
  ihave H2 := (Entails.of_eq (pointsTo_congr (f := g) (g := f) fun i hi => ((he i (Finset.mem_inter.mpr ⟨hi, hi⟩)).1).symm)) $$ H2
  iexists f
  iapply (pointsTo_share (PosShare.mem_left_op_right fullShare)).2
  isplitl [H1] <;> iassumption

set_option maxHeartbeats 2000000 in
/-- The run. -/
theorem body_run (K : GSem nD τ sig → ℕ) (c : Dev nD) (Kt : PUnit → sProp 𝕄) :
    iprop(Start I K c ∗ (Finish I c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) cc0_scratch7 cc0_scratch8 cc0_scratch9 cc0_scratch10) Kt := by
  simp only [cc0_body_eq_skeleton]
  unfold Start
  iintro ⟨⟨#HR, #Hlev, Hx, Hwq, Hk, Hv, Hwo, Hout, Hq, ⟨%ctx, Hctx⟩, Hacc, HO, HtP, HtN, HhT, HhF, HcB, HaB, ⟨HsT0, HsT1, HsT2, HsT3⟩, ⟨HsF0, HsF1, HsF2, HsF3⟩, ⟨HgT0, HgT1, HgT2, HgT3, HgT4, HgT5⟩, ⟨HgF0, HgF1, HgF2, HgF3, HgF4, HgF5⟩⟩, HK⟩
  try sl_exec
  try (iapply (step_ret c); try sl_exec)
  iapply (step_loadQ c) $$ Hq
  iintro %_ Hq
  try sl_exec
  try (iapply (step_ret c); try sl_exec)
  iapply (step_storeQ c I (by rfl)) $$ Hq
  iintro Hq
  try sl_exec
  try (iapply (step_ret c); try sl_exec)
  iapply (step_loadAcc I c ∅) $$ Hacc
  iintro %_ Hacc
  try sl_exec
  try (iapply (step_ret c); try sl_exec)
  iapply (step_storeAcc I c ∅ (c) (oaA c) (?_)) $$ Hacc
  · exact (blk_eq I c (c) (mask_A c) (oqA c) (okA c) (hqA c) (hkA c) (iqA c) (ikA c))
  iintro Hacc
  ihave Hc2 := (ctx_any c _) $$ Hctx
  icases Hc2 with ⟨%ctxA, Hctx⟩
  try sl_exec
  try (iapply (step_ret c); try sl_exec)
  unfold O₀
  iapply (step_signal (hop I) K c true _ (Fin.ext (k0_dev1_eq c)) _) $$ [HO HtP HhT]
  · isplitr; · iexact HR
    isplitl [HO]; · iexact HO
    isplitl [HtP]; · iexact HtP
    iexact HhT
  iintro HO
  try sl_exec
  try (iapply (step_ret c); try sl_exec)
  iapply (step_signal (hop I) K c false _ (Fin.ext (k0_dev2_eq c)) _) $$ [HO HtN HhF]
  · isplitr; · iexact HR
    isplitl [HO]; · iexact HO
    isplitl [HtN]; · iexact HtN
    iexact HhF
  iintro HO
  try sl_exec
  try (iapply (step_ret c); try sl_exec)
  iapply (step_barrier (hop I) K c order) $$ [HO HcB HaB]
  · isplitr; · iexact HR
    isplitr; · iexact Hlev
    isplitl [HO]; · iexact HO
    isplitl [HcB] <;> iassumption
  iintro ⟨HO, HvB, HpT, HpF⟩
  ihave HpT' := (barPay_six c true) $$ HpT
  icases HpT' with ⟨HuT0, HuT1, HuT2, HuT3, HuT4, HuT5⟩
  ihave HpF' := (barPay_six c false) $$ HpF
  icases HpF' with ⟨HuF0, HuF1, HuF2, HuF3, HuF4, HuF5⟩
  try sl_exec
  try (iapply (step_ret c); try sl_exec)
  iapply (step_loadHalf I c (insert (c) ∅) true (back true 0 c) (mem_true0 c) (ol_true0 c)) $$ Hacc
  iintro Hacc
  try sl_exec
  try (iapply (step_ret c); try sl_exec)
  iapply (step_load4 c (Memref.whole cc0_scratch3) 0) $$ HsT0
  iintro %_ HsT0
  try sl_exec
  try (iapply (step_ret c); try sl_exec)
  iapply (step_store4' c (Memref.whole cc0_scratch3) 0 (hop I true 0 c) (?_)) $$ HsT0
  · exact hop_first I true c
  iintro HsT0
  try sl_exec
  try (iapply (step_ret c); try sl_exec)
  iapply (step_send (hop I) K c true 0 _ (Fin.ext (k0_dev3_eq c)) [(false, 0), (true, 1), (false, 1), (true, 2), (false, 2), (true, 3), (false, 3), (true, 4), (false, 4), (true, 5), (false, 5)]) $$ [HO HgT0 HuT0 HsT0]
  · isplitr; · iexact HR
    isplitl [HO]; · iexact HO
    isplitl [HgT0]; · iexact HgT0
    isplitl [HuT0]; · iexact HuT0
    iexact HsT0
  iintro ⟨HO, HoT0, HiT0⟩
  try sl_exec
  try (iapply (step_ret c); try sl_exec)
  iapply (step_loadHalf I c (insert (c) ∅) false (back false 0 c) (mem_false0 c) (ol_false0 c)) $$ Hacc
  iintro Hacc
  try sl_exec
  try (iapply (step_ret c); try sl_exec)
  iapply (step_load4 c (Memref.whole cc0_scratch5) 0) $$ HsF0
  iintro %_ HsF0
  try sl_exec
  try (iapply (step_ret c); try sl_exec)
  iapply (step_store4' c (Memref.whole cc0_scratch5) 0 (hop I false 0 c) (?_)) $$ HsF0
  · exact hop_first I false c
  iintro HsF0
  try sl_exec
  try (iapply (step_ret c); try sl_exec)
  iapply (step_send (hop I) K c false 0 _ (Fin.ext (k0_dev4_eq c)) [(true, 1), (false, 1), (true, 2), (false, 2), (true, 3), (false, 3), (true, 4), (false, 4), (true, 5), (false, 5)]) $$ [HO HgF0 HuF0 HsF0]
  · isplitr; · iexact HR
    isplitl [HO]; · iexact HO
    isplitl [HgF0]; · iexact HgF0
    isplitl [HuF0]; · iexact HuF0
    iexact HsF0
  iintro ⟨HO, HoF0, HiF0⟩
  try sl_exec
  try (iapply (step_ret c); try sl_exec)
  iapply (step_loadAcc I c (insert (c) ∅)) $$ Hacc
  iintro %_ Hacc
  try sl_exec
  try (iapply (step_ret c); try sl_exec)
  iapply (step_storeAcc I c (insert (c) ∅) (prv c) (oaB c) (?_)) $$ Hacc
  · exact (blk_eq I c (prv c) (mask_B c) (oqB c) (okB c) (hqB c) (hkB c) (iqB c) (ikB c))
  iintro Hacc
  ihave Hc2 := (ctx_any c _) $$ Hctx
  icases Hc2 with ⟨%ctxB, Hctx⟩
  try sl_exec
  try (iapply (step_ret c); try sl_exec)
  iapply (step_loadAcc I c (insert (prv c) (insert (c) ∅))) $$ Hacc
  iintro %_ Hacc
  try sl_exec
  try (iapply (step_ret c); try sl_exec)
  iapply (step_storeAcc I c (insert (prv c) (insert (c) ∅)) (nxt c) (oaC c) (?_)) $$ Hacc
  · exact (blk_eq I c (nxt c) (mask_C c) (oqC c) (okC c) (hqC c) (hkC c) (iqC c) (ikC c))
  iintro Hacc
  ihave Hc2 := (ctx_any c _) $$ Hctx
  icases Hc2 with ⟨%ctxC, Hctx⟩
  try sl_exec
  try (iapply (step_ret c); try sl_exec)
  iapply (step_waitSend (hop I) K c true 0 [(true, 1), (false, 1), (true, 2), (false, 2), (true, 3), (false, 3), (true, 4), (false, 4), (true, 5), (false, 5)]) $$ [HO HoT0]
  · isplitr; · iexact HR
    isplitr; · iexact Hlev
    isplitl [HO]; · iexact HO
    iexact HoT0
  iintro ⟨HO, HvsT0, HsT0⟩
  try sl_exec
  try (iapply (step_ret c); try sl_exec)
  iapply (step_waitRecv (hop I) K c true 0 [(true, 1), (false, 1), (true, 2), (false, 2), (true, 3), (false, 3), (true, 4), (false, 4), (true, 5), (false, 5)] (by decide)) $$ [HO HiT0]
  · isplitr; · iexact HR
    isplitr; · iexact Hlev
    isplitl [HO]; · iexact HO
    iexact HiT0
  iintro ⟨HO, HvrT0, HrT0⟩
  try sl_exec
  try (iapply (step_ret c); try sl_exec)
  iapply (step_waitSend (hop I) K c false 0 [(true, 1), (false, 1), (true, 2), (false, 2), (true, 3), (false, 3), (true, 4), (false, 4), (true, 5), (false, 5)]) $$ [HO HoF0]
  · isplitr; · iexact HR
    isplitr; · iexact Hlev
    isplitl [HO]; · iexact HO
    iexact HoF0
  iintro ⟨HO, HvsF0, HsF0⟩
  try sl_exec
  try (iapply (step_ret c); try sl_exec)
  iapply (step_waitRecv (hop I) K c false 0 [(true, 1), (false, 1), (true, 2), (false, 2), (true, 3), (false, 3), (true, 4), (false, 4), (true, 5), (false, 5)] (by decide)) $$ [HO HiF0]
  · isplitr; · iexact HR
    isplitr; · iexact Hlev
    isplitl [HO]; · iexact HO
    iexact HiF0
  iintro ⟨HO, HvrF0, HrF0⟩
  try sl_exec
  try (iapply (step_ret c); try sl_exec)
  iapply (step_loadHalf I c (insert (nxt c) (insert (prv c) (insert (c) ∅))) true (back true 1 c) (mem_true1 c) (ol_true1 c)) $$ Hacc
  iintro Hacc
  try sl_exec
  try (iapply (step_ret c); try sl_exec)
  ihave HrT0 := (slot_true I c (from_ true c) 0 0 rfl fullShare) $$ HrT0
  iapply (step_load6 c (Memref.whole cc0_scratch4) 0 fullShare (hopN I true 0 (from_ true c))) $$ HrT0
  iintro HrT0
  ihave HrT0 := (unslot_true I c (from_ true c) 0 0 rfl fullShare) $$ HrT0
  try sl_exec
  try (iapply (step_ret c); try sl_exec)
  iapply (step_load4 c (Memref.whole cc0_scratch3) 1) $$ HsT1
  iintro %_ HsT1
  try sl_exec
  try (iapply (step_ret c); try sl_exec)
  iapply (step_store4' c (Memref.whole cc0_scratch3) 1 (hop I true 1 c) (?_)) $$ HsT1
  · exact hop_next I true 0 (by decide) c
  iintro HsT1
  try sl_exec
  try (iapply (step_ret c); try sl_exec)
  iapply (step_send (hop I) K c true 1 _ (Fin.ext (k0_dev5_eq c)) [(false, 1), (true, 2), (false, 2), (true, 3), (false, 3), (true, 4), (false, 4), (true, 5), (false, 5)]) $$ [HO HgT1 HuT1 HsT1]
  · isplitr; · iexact HR
    isplitl [HO]; · iexact HO
    isplitl [HgT1]; · iexact HgT1
    isplitl [HuT1]; · iexact HuT1
    iexact HsT1
  iintro ⟨HO, HoT1, HiT1⟩
  try sl_exec
  try (iapply (step_ret c); try sl_exec)
  iapply (step_loadHalf I c (insert (nxt c) (insert (prv c) (insert (c) ∅))) false (back false 1 c) (mem_false1 c) (ol_false1 c)) $$ Hacc
  iintro Hacc
  try sl_exec
  try (iapply (step_ret c); try sl_exec)
  ihave HrF0 := (slot_false I c (from_ false c) 0 0 rfl fullShare) $$ HrF0
  iapply (step_load6 c (Memref.whole cc0_scratch6) 0 fullShare (hopN I false 0 (from_ false c))) $$ HrF0
  iintro HrF0
  ihave HrF0 := (unslot_false I c (from_ false c) 0 0 rfl fullShare) $$ HrF0
  try sl_exec
  try (iapply (step_ret c); try sl_exec)
  iapply (step_load4 c (Memref.whole cc0_scratch5) 1) $$ HsF1
  iintro %_ HsF1
  try sl_exec
  try (iapply (step_ret c); try sl_exec)
  iapply (step_store4' c (Memref.whole cc0_scratch5) 1 (hop I false 1 c) (?_)) $$ HsF1
  · exact hop_next I false 0 (by decide) c
  iintro HsF1
  try sl_exec
  try (iapply (step_ret c); try sl_exec)
  iapply (step_send (hop I) K c false 1 _ (Fin.ext (k0_dev6_eq c)) [(true, 2), (false, 2), (true, 3), (false, 3), (true, 4), (false, 4), (true, 5), (false, 5)]) $$ [HO HgF1 HuF1 HsF1]
  · isplitr; · iexact HR
    isplitl [HO]; · iexact HO
    isplitl [HgF1]; · iexact HgF1
    isplitl [HuF1]; · iexact HuF1
    iexact HsF1
  iintro ⟨HO, HoF1, HiF1⟩
  try sl_exec
  try (iapply (step_ret c); try sl_exec)
  iapply (step_loadAcc I c (insert (nxt c) (insert (prv c) (insert (c) ∅)))) $$ Hacc
  iintro %_ Hacc
  try sl_exec
  try (iapply (step_ret c); try sl_exec)
  iapply (step_storeAcc I c (insert (nxt c) (insert (prv c) (insert (c) ∅))) (prv (prv c)) (oaD c) (?_)) $$ Hacc
  · exact (blk_eq I c (prv (prv c)) (mask_D c) (oqD c) (okD c) (hqD c) (hkD c) (iqD c) (ikD c))
  iintro Hacc
  ihave Hc2 := (ctx_any c _) $$ Hctx
  icases Hc2 with ⟨%ctxD, Hctx⟩
  try sl_exec
  try (iapply (step_ret c); try sl_exec)
  iapply (step_waitSend (hop I) K c true 1 [(true, 2), (false, 2), (true, 3), (false, 3), (true, 4), (false, 4), (true, 5), (false, 5)]) $$ [HO HoT1]
  · isplitr; · iexact HR
    isplitr; · iexact Hlev
    isplitl [HO]; · iexact HO
    iexact HoT1
  iintro ⟨HO, HvsT1, HsT1⟩
  try sl_exec
  try (iapply (step_ret c); try sl_exec)
  iapply (step_waitRecv (hop I) K c true 1 [(true, 2), (false, 2), (true, 3), (false, 3), (true, 4), (false, 4), (true, 5), (false, 5)] (by decide)) $$ [HO HiT1]
  · isplitr; · iexact HR
    isplitr; · iexact Hlev
    isplitl [HO]; · iexact HO
    iexact HiT1
  iintro ⟨HO, HvrT1, HrT1⟩
  try sl_exec
  try (iapply (step_ret c); try sl_exec)
  iapply (step_waitSend (hop I) K c false 1 [(true, 2), (false, 2), (true, 3), (false, 3), (true, 4), (false, 4), (true, 5), (false, 5)]) $$ [HO HoF1]
  · isplitr; · iexact HR
    isplitr; · iexact Hlev
    isplitl [HO]; · iexact HO
    iexact HoF1
  iintro ⟨HO, HvsF1, HsF1⟩
  try sl_exec
  try (iapply (step_ret c); try sl_exec)
  iapply (step_waitRecv (hop I) K c false 1 [(true, 2), (false, 2), (true, 3), (false, 3), (true, 4), (false, 4), (true, 5), (false, 5)] (by decide)) $$ [HO HiF1]
  · isplitr; · iexact HR
    isplitr; · iexact Hlev
    isplitl [HO]; · iexact HO
    iexact HiF1
  iintro ⟨HO, HvrF1, HrF1⟩
  try sl_exec
  try (iapply (step_ret c); try sl_exec)
  iapply (step_loadHalf I c (insert (prv (prv c)) (insert (nxt c) (insert (prv c) (insert (c) ∅)))) true (back true 2 c) (mem_true2 c) (ol_true2 c)) $$ Hacc
  iintro Hacc
  try sl_exec
  try (iapply (step_ret c); try sl_exec)
  ihave HrT1 := (slot_true I c (from_ true c) 1 1 rfl fullShare) $$ HrT1
  iapply (step_load6 c (Memref.whole cc0_scratch4) 1 fullShare (hopN I true 1 (from_ true c))) $$ HrT1
  iintro HrT1
  ihave HrT1 := (unslot_true I c (from_ true c) 1 1 rfl fullShare) $$ HrT1
  try sl_exec
  try (iapply (step_ret c); try sl_exec)
  iapply (step_load4 c (Memref.whole cc0_scratch3) 2) $$ HsT2
  iintro %_ HsT2
  try sl_exec
  try (iapply (step_ret c); try sl_exec)
  iapply (step_store4' c (Memref.whole cc0_scratch3) 2 (hop I true 2 c) (?_)) $$ HsT2
  · exact hop_next I true 1 (by decide) c
  iintro HsT2
  try sl_exec
  try (iapply (step_ret c); try sl_exec)
  iapply (step_send (hop I) K c true 2 _ (Fin.ext (k0_dev7_eq c)) [(false, 2), (true, 3), (false, 3), (true, 4), (false, 4), (true, 5), (false, 5)]) $$ [HO HgT2 HuT2 HsT2]
  · isplitr; · iexact HR
    isplitl [HO]; · iexact HO
    isplitl [HgT2]; · iexact HgT2
    isplitl [HuT2]; · iexact HuT2
    iexact HsT2
  iintro ⟨HO, HoT2, HiT2⟩
  try sl_exec
  try (iapply (step_ret c); try sl_exec)
  iapply (step_loadHalf I c (insert (prv (prv c)) (insert (nxt c) (insert (prv c) (insert (c) ∅)))) false (back false 2 c) (mem_false2 c) (ol_false2 c)) $$ Hacc
  iintro Hacc
  try sl_exec
  try (iapply (step_ret c); try sl_exec)
  ihave HrF1 := (slot_false I c (from_ false c) 1 1 rfl fullShare) $$ HrF1
  iapply (step_load6 c (Memref.whole cc0_scratch6) 1 fullShare (hopN I false 1 (from_ false c))) $$ HrF1
  iintro HrF1
  ihave HrF1 := (unslot_false I c (from_ false c) 1 1 rfl fullShare) $$ HrF1
  try sl_exec
  try (iapply (step_ret c); try sl_exec)
  iapply (step_load4 c (Memref.whole cc0_scratch5) 2) $$ HsF2
  iintro %_ HsF2
  try sl_exec
  try (iapply (step_ret c); try sl_exec)
  iapply (step_store4' c (Memref.whole cc0_scratch5) 2 (hop I false 2 c) (?_)) $$ HsF2
  · exact hop_next I false 1 (by decide) c
  iintro HsF2
  try sl_exec
  try (iapply (step_ret c); try sl_exec)
  iapply (step_send (hop I) K c false 2 _ (Fin.ext (k0_dev8_eq c)) [(true, 3), (false, 3), (true, 4), (false, 4), (true, 5), (false, 5)]) $$ [HO HgF2 HuF2 HsF2]
  · isplitr; · iexact HR
    isplitl [HO]; · iexact HO
    isplitl [HgF2]; · iexact HgF2
    isplitl [HuF2]; · iexact HuF2
    iexact HsF2
  iintro ⟨HO, HoF2, HiF2⟩
  try sl_exec
  try (iapply (step_ret c); try sl_exec)
  iapply (step_waitSend (hop I) K c true 2 [(true, 3), (false, 3), (true, 4), (false, 4), (true, 5), (false, 5)]) $$ [HO HoT2]
  · isplitr; · iexact HR
    isplitr; · iexact Hlev
    isplitl [HO]; · iexact HO
    iexact HoT2
  iintro ⟨HO, HvsT2, HsT2⟩
  try sl_exec
  try (iapply (step_ret c); try sl_exec)
  iapply (step_waitRecv (hop I) K c true 2 [(true, 3), (false, 3), (true, 4), (false, 4), (true, 5), (false, 5)] (by decide)) $$ [HO HiT2]
  · isplitr; · iexact HR
    isplitr; · iexact Hlev
    isplitl [HO]; · iexact HO
    iexact HiT2
  iintro ⟨HO, HvrT2, HrT2⟩
  try sl_exec
  try (iapply (step_ret c); try sl_exec)
  iapply (step_waitSend (hop I) K c false 2 [(true, 3), (false, 3), (true, 4), (false, 4), (true, 5), (false, 5)]) $$ [HO HoF2]
  · isplitr; · iexact HR
    isplitr; · iexact Hlev
    isplitl [HO]; · iexact HO
    iexact HoF2
  iintro ⟨HO, HvsF2, HsF2⟩
  try sl_exec
  try (iapply (step_ret c); try sl_exec)
  iapply (step_waitRecv (hop I) K c false 2 [(true, 3), (false, 3), (true, 4), (false, 4), (true, 5), (false, 5)] (by decide)) $$ [HO HiF2]
  · isplitr; · iexact HR
    isplitr; · iexact Hlev
    isplitl [HO]; · iexact HO
    iexact HiF2
  iintro ⟨HO, HvrF2, HrF2⟩
  try sl_exec
  try (iapply (step_ret c); try sl_exec)
  iapply (step_loadHalf I c (insert (prv (prv c)) (insert (nxt c) (insert (prv c) (insert (c) ∅)))) true (back true 3 c) (mem_true3 c) (ol_true3 c)) $$ Hacc
  iintro Hacc
  try sl_exec
  try (iapply (step_ret c); try sl_exec)
  ihave HrT2 := (slot_true I c (from_ true c) 2 2 rfl fullShare) $$ HrT2
  iapply (step_load6 c (Memref.whole cc0_scratch4) 2 fullShare (hopN I true 2 (from_ true c))) $$ HrT2
  iintro HrT2
  ihave HrT2 := (unslot_true I c (from_ true c) 2 2 rfl fullShare) $$ HrT2
  try sl_exec
  try (iapply (step_ret c); try sl_exec)
  iapply (step_load4 c (Memref.whole cc0_scratch3) 3) $$ HsT3
  iintro %_ HsT3
  try sl_exec
  try (iapply (step_ret c); try sl_exec)
  iapply (step_store4' c (Memref.whole cc0_scratch3) 3 (hop I true 3 c) (?_)) $$ HsT3
  · exact hop_next I true 2 (by decide) c
  iintro HsT3
  try sl_exec
  try (iapply (step_ret c); try sl_exec)
  iapply (step_send (hop I) K c true 3 _ (Fin.ext (k0_dev9_eq c)) [(false, 3), (true, 4), (false, 4), (true, 5), (false, 5)]) $$ [HO HgT3 HuT3 HsT3]
  · isplitr; · iexact HR
    isplitl [HO]; · iexact HO
    isplitl [HgT3]; · iexact HgT3
    isplitl [HuT3]; · iexact HuT3
    iexact HsT3
  iintro ⟨HO, HoT3, HiT3⟩
  try sl_exec
  try (iapply (step_ret c); try sl_exec)
  iapply (step_loadHalf I c (insert (prv (prv c)) (insert (nxt c) (insert (prv c) (insert (c) ∅)))) false (back false 3 c) (mem_false3 c) (ol_false3 c)) $$ Hacc
  iintro Hacc
  try sl_exec
  try (iapply (step_ret c); try sl_exec)
  ihave HrF2 := (slot_false I c (from_ false c) 2 2 rfl fullShare) $$ HrF2
  iapply (step_load6 c (Memref.whole cc0_scratch6) 2 fullShare (hopN I false 2 (from_ false c))) $$ HrF2
  iintro HrF2
  ihave HrF2 := (unslot_false I c (from_ false c) 2 2 rfl fullShare) $$ HrF2
  try sl_exec
  try (iapply (step_ret c); try sl_exec)
  iapply (step_load4 c (Memref.whole cc0_scratch5) 3) $$ HsF3
  iintro %_ HsF3
  try sl_exec
  try (iapply (step_ret c); try sl_exec)
  iapply (step_store4' c (Memref.whole cc0_scratch5) 3 (hop I false 3 c) (?_)) $$ HsF3
  · exact hop_next I false 2 (by decide) c
  iintro HsF3
  try sl_exec
  try (iapply (step_ret c); try sl_exec)
  iapply (step_send (hop I) K c false 3 _ (Fin.ext (k0_dev10_eq c)) [(true, 4), (false, 4), (true, 5), (false, 5)]) $$ [HO HgF3 HuF3 HsF3]
  · isplitr; · iexact HR
    isplitl [HO]; · iexact HO
    isplitl [HgF3]; · iexact HgF3
    isplitl [HuF3]; · iexact HuF3
    iexact HsF3
  iintro ⟨HO, HoF3, HiF3⟩
  try sl_exec
  try (iapply (step_ret c); try sl_exec)
  iapply (step_loadOut I c ∅) $$ Hout
  iintro %_ Hout
  try sl_exec
  try (iapply (step_ret c); try sl_exec)
  iapply (step_storeOut I c ∅ (nxt c) true (os_true3 c) (?_)) $$ Hout
  · exact (hop_next I true 2 (by decide) c).trans (congrArg up (res_3t I c))
  iintro Hout
  try sl_exec
  try (iapply (step_ret c); try sl_exec)
  iapply (step_loadOut I c (insert ((nxt c), true) ∅)) $$ Hout
  iintro %_ Hout
  try sl_exec
  try (iapply (step_ret c); try sl_exec)
  iapply (step_storeOut I c (insert ((nxt c), true) ∅) (prv c) false (os_false3 c) (?_)) $$ Hout
  · exact (hop_next I false 2 (by decide) c).trans (congrArg up (res_3f I c))
  iintro Hout
  try sl_exec
  try (iapply (step_ret c); try sl_exec)
  iapply (step_waitSend (hop I) K c true 3 [(true, 4), (false, 4), (true, 5), (false, 5)]) $$ [HO HoT3]
  · isplitr; · iexact HR
    isplitr; · iexact Hlev
    isplitl [HO]; · iexact HO
    iexact HoT3
  iintro ⟨HO, HvsT3, HsT3⟩
  try sl_exec
  try (iapply (step_ret c); try sl_exec)
  iapply (step_waitRecv (hop I) K c true 3 [(true, 4), (false, 4), (true, 5), (false, 5)] (by decide)) $$ [HO HiT3]
  · isplitr; · iexact HR
    isplitr; · iexact Hlev
    isplitl [HO]; · iexact HO
    iexact HiT3
  iintro ⟨HO, HvrT3, HrT3⟩
  ihave Hh := (sAt_split (rM true 3) c _) $$ HrT3
  icases Hh with ⟨HsT4, HrT3⟩
  ihave HsT4 := (pass_on I c true 3 4 rfl (by decide) (rM true 3)) $$ HsT4
  try sl_exec
  try (iapply (step_ret c); try sl_exec)
  iapply (step_send (hop I) K c true 4 _ (Fin.ext (k0_dev11_eq c)) [(false, 4), (true, 5), (false, 5)]) $$ [HO HgT4 HuT4 HsT4]
  · isplitr; · iexact HR
    isplitl [HO]; · iexact HO
    isplitl [HgT4]; · iexact HgT4
    isplitl [HuT4]; · iexact HuT4
    iexact HsT4
  iintro ⟨HO, HoT4, HiT4⟩
  try sl_exec
  try (iapply (step_ret c); try sl_exec)
  iapply (step_waitSend (hop I) K c false 3 [(false, 4), (true, 5), (false, 5)]) $$ [HO HoF3]
  · isplitr; · iexact HR
    isplitr; · iexact Hlev
    isplitl [HO]; · iexact HO
    iexact HoF3
  iintro ⟨HO, HvsF3, HsF3⟩
  try sl_exec
  try (iapply (step_ret c); try sl_exec)
  iapply (step_waitRecv (hop I) K c false 3 [(false, 4), (true, 5), (false, 5)] (by decide)) $$ [HO HiF3]
  · isplitr; · iexact HR
    isplitr; · iexact Hlev
    isplitl [HO]; · iexact HO
    iexact HiF3
  iintro ⟨HO, HvrF3, HrF3⟩
  ihave Hh := (sAt_split (rM false 3) c _) $$ HrF3
  icases Hh with ⟨HsF4, HrF3⟩
  ihave HsF4 := (pass_on I c false 3 4 rfl (by decide) (rM false 3)) $$ HsF4
  try sl_exec
  try (iapply (step_ret c); try sl_exec)
  iapply (step_send (hop I) K c false 4 _ (Fin.ext (k0_dev12_eq c)) [(true, 5), (false, 5)]) $$ [HO HgF4 HuF4 HsF4]
  · isplitr; · iexact HR
    isplitl [HO]; · iexact HO
    isplitl [HgF4]; · iexact HgF4
    isplitl [HuF4]; · iexact HuF4
    iexact HsF4
  iintro ⟨HO, HoF4, HiF4⟩
  try sl_exec
  try (iapply (step_ret c); try sl_exec)
  ihave HrT3 := (slot_true I c (from_ true c) 3 3 rfl fullShare.right) $$ HrT3
  iapply (step_load6 c (Memref.whole cc0_scratch4) 3 fullShare.right (hopN I true 3 (from_ true c))) $$ HrT3
  iintro HrT3
  ihave HrT3 := (unslot_true I c (from_ true c) 3 3 rfl fullShare.right) $$ HrT3
  try sl_exec
  try (iapply (step_ret c); try sl_exec)
  iapply (step_loadOut I c (insert ((prv c), false) (insert ((nxt c), true) ∅))) $$ Hout
  iintro %_ Hout
  try sl_exec
  try (iapply (step_ret c); try sl_exec)
  iapply (step_storeOut I c (insert ((prv c), false) (insert ((nxt c), true) ∅)) (c) true (os_true4 c) (?_)) $$ Hout
  · exact res_4 I true c
  iintro Hout
  try sl_exec
  try (iapply (step_ret c); try sl_exec)
  ihave HrF3 := (slot_false I c (from_ false c) 3 3 rfl fullShare.right) $$ HrF3
  iapply (step_load6 c (Memref.whole cc0_scratch6) 3 fullShare.right (hopN I false 3 (from_ false c))) $$ HrF3
  iintro HrF3
  ihave HrF3 := (unslot_false I c (from_ false c) 3 3 rfl fullShare.right) $$ HrF3
  try sl_exec
  try (iapply (step_ret c); try sl_exec)
  iapply (step_loadOut I c (insert ((c), true) (insert ((prv c), false) (insert ((nxt c), true) ∅)))) $$ Hout
  iintro %_ Hout
  try sl_exec
  try (iapply (step_ret c); try sl_exec)
  iapply (step_storeOut I c (insert ((c), true) (insert ((prv c), false) (insert ((nxt c), true) ∅))) (c) false (os_false4 c) (?_)) $$ Hout
  · exact res_4 I false c
  iintro Hout
  try sl_exec
  try (iapply (step_ret c); try sl_exec)
  iapply (step_waitSend (hop I) K c true 4 [(true, 5), (false, 5)]) $$ [HO HoT4]
  · isplitr; · iexact HR
    isplitr; · iexact Hlev
    isplitl [HO]; · iexact HO
    iexact HoT4
  iintro ⟨HO, HvsT4, HsT4⟩
  try sl_exec
  try (iapply (step_ret c); try sl_exec)
  iapply (step_waitRecv (hop I) K c true 4 [(true, 5), (false, 5)] (by decide)) $$ [HO HiT4]
  · isplitr; · iexact HR
    isplitr; · iexact Hlev
    isplitl [HO]; · iexact HO
    iexact HiT4
  iintro ⟨HO, HvrT4, HrT4⟩
  ihave Hh := (sAt_split (rM true 4) c _) $$ HrT4
  icases Hh with ⟨HsT5, HrT4⟩
  ihave HsT5 := (pass_on I c true 4 5 rfl (by decide) (rM true 4)) $$ HsT5
  try sl_exec
  try (iapply (step_ret c); try sl_exec)
  iapply (step_send (hop I) K c true 5 _ (Fin.ext (k0_dev13_eq c)) [(false, 5)]) $$ [HO HgT5 HuT5 HsT5]
  · isplitr; · iexact HR
    isplitl [HO]; · iexact HO
    isplitl [HgT5]; · iexact HgT5
    isplitl [HuT5]; · iexact HuT5
    iexact HsT5
  iintro ⟨HO, HoT5, HiT5⟩
  try sl_exec
  try (iapply (step_ret c); try sl_exec)
  iapply (step_waitSend (hop I) K c false 4 [(false, 5)]) $$ [HO HoF4]
  · isplitr; · iexact HR
    isplitr; · iexact Hlev
    isplitl [HO]; · iexact HO
    iexact HoF4
  iintro ⟨HO, HvsF4, HsF4⟩
  try sl_exec
  try (iapply (step_ret c); try sl_exec)
  iapply (step_waitRecv (hop I) K c false 4 [(false, 5)] (by decide)) $$ [HO HiF4]
  · isplitr; · iexact HR
    isplitr; · iexact Hlev
    isplitl [HO]; · iexact HO
    iexact HiF4
  iintro ⟨HO, HvrF4, HrF4⟩
  ihave Hh := (sAt_split (rM false 4) c _) $$ HrF4
  icases Hh with ⟨HsF5, HrF4⟩
  ihave HsF5 := (pass_on I c false 4 5 rfl (by decide) (rM false 4)) $$ HsF5
  try sl_exec
  try (iapply (step_ret c); try sl_exec)
  iapply (step_send (hop I) K c false 5 _ (Fin.ext (k0_dev14_eq c)) []) $$ [HO HgF5 HuF5 HsF5]
  · isplitr; · iexact HR
    isplitl [HO]; · iexact HO
    isplitl [HgF5]; · iexact HgF5
    isplitl [HuF5]; · iexact HuF5
    iexact HsF5
  iintro ⟨HO, HoF5, HiF5⟩
  try sl_exec
  try (iapply (step_ret c); try sl_exec)
  ihave HrT4 := (slot_true I c (from_ true c) 4 4 rfl fullShare.right) $$ HrT4
  iapply (step_load6 c (Memref.whole cc0_scratch4) 4 fullShare.right (hopN I true 4 (from_ true c))) $$ HrT4
  iintro HrT4
  ihave HrT4 := (unslot_true I c (from_ true c) 4 4 rfl fullShare.right) $$ HrT4
  try sl_exec
  try (iapply (step_ret c); try sl_exec)
  iapply (step_loadOut I c (insert ((c), false) (insert ((c), true) (insert ((prv c), false) (insert ((nxt c), true) ∅))))) $$ Hout
  iintro %_ Hout
  try sl_exec
  try (iapply (step_ret c); try sl_exec)
  iapply (step_storeOut I c (insert ((c), false) (insert ((c), true) (insert ((prv c), false) (insert ((nxt c), true) ∅)))) (prv c) true (os_true5 c) (?_)) $$ Hout
  · exact res_5 I true c
  iintro Hout
  try sl_exec
  try (iapply (step_ret c); try sl_exec)
  ihave HrF4 := (slot_false I c (from_ false c) 4 4 rfl fullShare.right) $$ HrF4
  iapply (step_load6 c (Memref.whole cc0_scratch6) 4 fullShare.right (hopN I false 4 (from_ false c))) $$ HrF4
  iintro HrF4
  ihave HrF4 := (unslot_false I c (from_ false c) 4 4 rfl fullShare.right) $$ HrF4
  try sl_exec
  try (iapply (step_ret c); try sl_exec)
  iapply (step_loadOut I c (insert ((prv c), true) (insert ((c), false) (insert ((c), true) (insert ((prv c), false) (insert ((nxt c), true) ∅)))))) $$ Hout
  iintro %_ Hout
  try sl_exec
  try (iapply (step_ret c); try sl_exec)
  iapply (step_storeOut I c (insert ((prv c), true) (insert ((c), false) (insert ((c), true) (insert ((prv c), false) (insert ((nxt c), true) ∅))))) (nxt c) false (os_false5 c) (?_)) $$ Hout
  · exact res_5 I false c
  iintro Hout
  try sl_exec
  try (iapply (step_ret c); try sl_exec)
  iapply (step_waitSend (hop I) K c true 5 []) $$ [HO HoT5]
  · isplitr; · iexact HR
    isplitr; · iexact Hlev
    isplitl [HO]; · iexact HO
    iexact HoT5
  iintro ⟨HO, HvsT5, HsT5⟩
  try sl_exec
  try (iapply (step_ret c); try sl_exec)
  iapply (step_waitRecv (hop I) K c true 5 [] (by decide)) $$ [HO HiT5]
  · isplitr; · iexact HR
    isplitr; · iexact Hlev
    isplitl [HO]; · iexact HO
    iexact HiT5
  iintro ⟨HO, HvrT5, HrT5⟩
  try sl_exec
  try (iapply (step_ret c); try sl_exec)
  iapply (step_waitSend (hop I) K c false 5 []) $$ [HO HoF5]
  · isplitr; · iexact HR
    isplitr; · iexact Hlev
    isplitl [HO]; · iexact HO
    iexact HoF5
  iintro ⟨HO, HvsF5, HsF5⟩
  try sl_exec
  try (iapply (step_ret c); try sl_exec)
  iapply (step_waitRecv (hop I) K c false 5 [] (by decide)) $$ [HO HiF5]
  · isplitr; · iexact HR
    isplitr; · iexact Hlev
    isplitl [HO]; · iexact HO
    iexact HiF5
  iintro ⟨HO, HvrF5, HrF5⟩
  try sl_exec
  try (iapply (step_ret c); try sl_exec)
  ihave HrT5 := (slot_true I c (from_ true c) 5 5 rfl fullShare) $$ HrT5
  iapply (step_load6 c (Memref.whole cc0_scratch4) 5 fullShare (hopN I true 5 (from_ true c))) $$ HrT5
  iintro HrT5
  ihave HrT5 := (unslot_true I c (from_ true c) 5 5 rfl fullShare) $$ HrT5
  try sl_exec
  try (iapply (step_ret c); try sl_exec)
  iapply (step_loadOut I c (insert ((nxt c), false) (insert ((prv c), true) (insert ((c), false) (insert ((c), true) (insert ((prv c), false) (insert ((nxt c), true) ∅))))))) $$ Hout
  iintro %_ Hout
  try sl_exec
  try (iapply (step_ret c); try sl_exec)
  iapply (step_storeOut I c (insert ((nxt c), false) (insert ((prv c), true) (insert ((c), false) (insert ((c), true) (insert ((prv c), false) (insert ((nxt c), true) ∅)))))) (prv (prv c)) true (os_true6 c) (?_)) $$ Hout
  · exact res_6 I true c
  iintro Hout
  try sl_exec
  try (iapply (step_ret c); try sl_exec)
  ihave HrF5 := (slot_false I c (from_ false c) 5 5 rfl fullShare) $$ HrF5
  iapply (step_load6 c (Memref.whole cc0_scratch6) 5 fullShare (hopN I false 5 (from_ false c))) $$ HrF5
  iintro HrF5
  ihave HrF5 := (unslot_false I c (from_ false c) 5 5 rfl fullShare) $$ HrF5
  try sl_exec
  try (iapply (step_ret c); try sl_exec)
  iapply (step_loadOut I c (insert ((prv (prv c)), true) (insert ((nxt c), false) (insert ((prv c), true) (insert ((c), false) (insert ((c), true) (insert ((prv c), false) (insert ((nxt c), true) ∅)))))))) $$ Hout
  iintro %_ Hout
  try sl_exec
  try (iapply (step_ret c); try sl_exec)
  iapply (step_storeOut I c (insert ((prv (prv c)), true) (insert ((nxt c), false) (insert ((prv c), true) (insert ((c), false) (insert ((c), true) (insert ((prv c), false) (insert ((nxt c), true) ∅))))))) (nxt (nxt c)) false (os_false6 c) (?_)) $$ Hout
  · exact res_6 I false c
  iintro Hout
  try sl_exec
  try (iapply (step_ret c); try sl_exec)
  ihave Hq2 := ((Entails.of_eq (congrArg (OutHas I c) (all_out c))).trans (OutHas_final I c)) $$ Hout
  ihave HrT3 := (sAt_join (rM true 3) c _ _) $$ [HsT4 HrT3]
  · isplitl [HsT4] <;> iassumption
  ihave HrT4 := (sAt_join (rM true 4) c _ _) $$ [HsT5 HrT4]
  · isplitl [HsT5] <;> iassumption
  ihave HrT0 := (sAt_any (rM true 0) c _) $$ HrT0
  ihave HrT1 := (sAt_any (rM true 1) c _) $$ HrT1
  ihave HrT2 := (sAt_any (rM true 2) c _) $$ HrT2
  ihave HrT5 := (sAt_any (rM true 5) c _) $$ HrT5
  ihave HsT0 := (sAt_any (sM true 0) c _) $$ HsT0
  ihave HsT1 := (sAt_any (sM true 1) c _) $$ HsT1
  ihave HsT2 := (sAt_any (sM true 2) c _) $$ HsT2
  ihave HsT3 := (sAt_any (sM true 3) c _) $$ HsT3
  ihave HrF3 := (sAt_join (rM false 3) c _ _) $$ [HsF4 HrF3]
  · isplitl [HsF4] <;> iassumption
  ihave HrF4 := (sAt_join (rM false 4) c _ _) $$ [HsF5 HrF4]
  · isplitl [HsF5] <;> iassumption
  ihave HrF0 := (sAt_any (rM false 0) c _) $$ HrF0
  ihave HrF1 := (sAt_any (rM false 1) c _) $$ HrF1
  ihave HrF2 := (sAt_any (rM false 2) c _) $$ HrF2
  ihave HrF5 := (sAt_any (rM false 5) c _) $$ HrF5
  ihave HsF0 := (sAt_any (sM false 0) c _) $$ HsF0
  ihave HsF1 := (sAt_any (sM false 1) c _) $$ HsF1
  ihave HsF2 := (sAt_any (sM false 2) c _) $$ HsF2
  ihave HsF3 := (sAt_any (sM false 3) c _) $$ HsF3
  ihave Hacc := (AccHas_any I c _) $$ Hacc
  iapply (step_end c)
  iapply HK
  unfold Finish
  isplitl [Hx]; · iexact Hx
  isplitl [Hwq]; · iexact Hwq
  isplitl [Hk]; · iexact Hk
  isplitl [Hv]; · iexact Hv
  isplitl [Hwo]; · iexact Hwo
  isplitl [Hq2]; · iexact Hq2
  isplitl [Hq]; · iexists _; iexact Hq
  isplitl [Hctx]; · iexists _; iexact Hctx
  isplitl [Hacc]; · iexact Hacc
  isplitl [HO]; · iexact HO
  isplitl [HvB]; · iexact HvB
  isplitl [HsT0 HsT1 HsT2 HsT3]
  · isplitl [HsT0]; · iexact HsT0
    isplitl [HsT1]; · iexact HsT1
    isplitl [HsT2]; · iexact HsT2
    iexact HsT3
  isplitl [HsF0 HsF1 HsF2 HsF3]
  · isplitl [HsF0]; · iexact HsF0
    isplitl [HsF1]; · iexact HsF1
    isplitl [HsF2]; · iexact HsF2
    iexact HsF3
  isplitl [HrT0 HrT1 HrT2 HrT3 HrT4 HrT5]
  · isplitl [HrT0]; · iexact HrT0
    isplitl [HrT1]; · iexact HrT1
    isplitl [HrT2]; · iexact HrT2
    isplitl [HrT3]; · iexact HrT3
    isplitl [HrT4]; · iexact HrT4
    iexact HrT5
  isplitl [HrF0 HrF1 HrF2 HrF3 HrF4 HrF5]
  · isplitl [HrF0]; · iexact HrF0
    isplitl [HrF1]; · iexact HrF1
    isplitl [HrF2]; · iexact HrF2
    isplitl [HrF3]; · iexact HrF3
    isplitl [HrF4]; · iexact HrF4
    iexact HrF5
  isplitl [HvsT0 HvsT1 HvsT2 HvsT3 HvsT4 HvsT5]
  · isplitl [HvsT0]; · iexact HvsT0
    isplitl [HvsT1]; · iexact HvsT1
    isplitl [HvsT2]; · iexact HvsT2
    isplitl [HvsT3]; · iexact HvsT3
    isplitl [HvsT4]; · iexact HvsT4
    iexact HvsT5
  isplitl [HvsF0 HvsF1 HvsF2 HvsF3 HvsF4 HvsF5]
  · isplitl [HvsF0]; · iexact HvsF0
    isplitl [HvsF1]; · iexact HvsF1
    isplitl [HvsF2]; · iexact HvsF2
    isplitl [HvsF3]; · iexact HvsF3
    isplitl [HvsF4]; · iexact HvsF4
    iexact HvsF5
  isplitl [HvrT0 HvrT1 HvrT2 HvrT3 HvrT4 HvrT5]
  · isplitl [HvrT0]; · iexact HvrT0
    isplitl [HvrT1]; · iexact HvrT1
    isplitl [HvrT2]; · iexact HvrT2
    isplitl [HvrT3]; · iexact HvrT3
    isplitl [HvrT4]; · iexact HvrT4
    iexact HvrT5
  isplitl [HvrF0]; · iexact HvrF0
  isplitl [HvrF1]; · iexact HvrF1
  isplitl [HvrF2]; · iexact HvrF2
  isplitl [HvrF3]; · iexact HvrF3
  isplitl [HvrF4]; · iexact HvrF4
  iexact HvrF5

end Cert.KernelIdeal.Ring

end
-- ==== Proof.Glue.lean ====
/-
  The send and receive buffers as their slots: a buffer held whole is its slots held one by one, and back.
-/
module

public import proofs.«01_k».proof.Proof.Body
public import Idealize.ShloMosaic.Lib.Ring
public import Idealize.ShloMosaic.Lib.Pipeline.Value

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type}

local notation "𝕄" => MT nD τ sig Unit (Elt F) ℕ UU ℕ

theorem four_eq (P : Fin 4 → sProp 𝕄) : (bigSep Finset.univ P : sProp 𝕄) = four P := by
  unfold four
  rw [show (Finset.univ : Finset (Fin 4)) = {0, 1, 2, 3} from by decide, bigSep_insert (by decide), bigSep_insert (by decide),
    bigSep_insert (by decide), bigSep_singleton]
  rfl

/-- The slots of a send buffer, as rectangles. -/
abbrev rect4 (s : Fin 4) : Rect S4x128x1024 := Rect.unit ![s.val, 0, 0] S1x128x1024.size (inb_slot4 s)
/-- The slots of a receive buffer, as rectangles. -/
abbrev rect6 (s : Fin 6) : Rect S6x128x1024 := Rect.unit ![s.val, 0, 0] S1x128x1024.size (inb_slot6 s)

theorem rect4_disjoint (s s' : Fin 4) (h : s ≠ s') : Disjoint (rect4 s).set (rect4 s').set :=
  lead_disjoint (s := S4x128x1024) (0 : Fin 3) 1 (fun s : Fin 4 => ![s.val, 0, 0]) S1x128x1024.size inb_slot4 (fun b => (Nat.one_mul b.val).symm) rfl s s' h
theorem rect6_disjoint (s s' : Fin 6) (h : s ≠ s') : Disjoint (rect6 s).set (rect6 s').set :=
  lead_disjoint (s := S6x128x1024) (0 : Fin 3) 1 (fun s : Fin 6 => ![s.val, 0, 0]) S1x128x1024.size inb_slot6 (fun b => (Nat.one_mul b.val).symm) rfl s s' h
theorem rect4_cover : Finset.univ.biUnion (fun s : Fin 4 => (rect4 s).set) = Finset.univ :=
  lead_cover (s := S4x128x1024) (0 : Fin 3) 1 (fun s : Fin 4 => ![s.val, 0, 0]) S1x128x1024.size inb_slot4 (fun b => (Nat.one_mul b.val).symm)
    (by intro b a ha; fin_cases a <;> first | exact absurd rfl ha | rfl) rfl (by decide) rfl
theorem rect6_cover : Finset.univ.biUnion (fun s : Fin 6 => (rect6 s).set) = Finset.univ :=
  lead_cover (s := S6x128x1024) (0 : Fin 3) 1 (fun s : Fin 6 => ![s.val, 0, 0]) S1x128x1024.size inb_slot6 (fun b => (Nat.one_mul b.val).symm)
    (by intro b a ha; fin_cases a <;> first | exact absurd rfl ha | rfl) rfl (by decide) rfl

/-- A location held whole, as blocks of it at contents not chosen. -/
theorem loc_blocks {n : ℕ} (ℓ : Loc nD τ sig) (I : Fin n → Finset (Idx ℓ)) (hd : ∀ b b', b ≠ b' → Disjoint (I b) (I b'))
    (hc : Finset.univ.biUnion I = Finset.univ) (f : Buf (Elt F) ℓ) :
    (ℓ ↦{fullShare} f : sProp 𝕄) ⊢ bigSep Finset.univ fun b => iprop(∃ f, ℓ ↦[I b]{fullShare} f) := by
  rw [pointsTo_blocks I hd hc f]
  have h (s : Fin n) : (ℓ ↦[I s]{fullShare} f : sProp 𝕄) ⊢ iprop(∃ f, ℓ ↦[I s]{fullShare} f) := by
    iintro H; iexists f; iexact H
  exact bigSep_mono fun s _ => h s

theorem send_true_set (s : Fin 4) : (sM true s).view.set = (rect4 s).set := (View.set_reshape _ _).trans (View.set_slice_whole _ _)
theorem send_true_split (c : Dev nD) (f : FVec F S4x128x1024 .bf16) : pt (F := F) c cc0_scratch3 f ⊢ four fun s => sAny (sM true s) c := by
  rw [← four_eq]
  unfold pt sAny
  refine (loc_blocks ((Memref.whole cc0_scratch3).view.loc (c : Thread nD τ)) (fun s : Fin 4 => (rect4 s).set) rect4_disjoint rect4_cover f).trans ?_
  refine bigSep_mono fun s _ => ?_
  rw [send_true_set]
  exact BI.Entails.refl _
theorem send_true_join (c : Dev nD) : ((four fun s => sAny (sM true s) c) : sProp 𝕄) ⊢ iprop(∃ f, pt (F := F) c cc0_scratch3 f) := by
  rw [← four_eq (fun s => sAny (F := F) (sM true s) c), bigSep_univ_at _ 0]
  iintro ⟨H0, H⟩
  unfold sAny
  icases H0 with ⟨%f₀, H0⟩
  iapply (pointsTo_blocks_join_exists (ℓ := (Memref.whole cc0_scratch3).view.loc (c : Thread nD τ)) (fun s : Fin 4 => (rect4 s).set) rect4_disjoint rect4_cover f₀)
  rw [bigSep_univ_at _ (0 : Fin 4)]
  isplitl [H0]
  · iexists f₀; rw [← send_true_set]; iexact H0
  · rw [show (fun s : Fin 4 => (iprop(∃ f : Buf (Elt F) ((Memref.whole cc0_scratch3).view.loc (c : Thread nD τ)), (Memref.whole cc0_scratch3).view.loc (c : Thread nD τ) ↦[(rect4 s).set]{fullShare} f) : sProp 𝕄))
      = fun s : Fin 4 => (iprop(∃ f : Buf (Elt F) ((sM true s).view.loc (c : Thread nD τ)), (sM true s).view.loc (c : Thread nD τ) ↦[(sM true s).view.set]{fullShare} f) : sProp 𝕄) from funext fun s => by rw [send_true_set]]
    iexact H

theorem send_false_set (s : Fin 4) : (sM false s).view.set = (rect4 s).set := (View.set_reshape _ _).trans (View.set_slice_whole _ _)
theorem send_false_split (c : Dev nD) (f : FVec F S4x128x1024 .bf16) : pt (F := F) c cc0_scratch5 f ⊢ four fun s => sAny (sM false s) c := by
  rw [← four_eq]
  unfold pt sAny
  refine (loc_blocks ((Memref.whole cc0_scratch5).view.loc (c : Thread nD τ)) (fun s : Fin 4 => (rect4 s).set) rect4_disjoint rect4_cover f).trans ?_
  refine bigSep_mono fun s _ => ?_
  rw [send_false_set]
  exact BI.Entails.refl _
theorem send_false_join (c : Dev nD) : ((four fun s => sAny (sM false s) c) : sProp 𝕄) ⊢ iprop(∃ f, pt (F := F) c cc0_scratch5 f) := by
  rw [← four_eq (fun s => sAny (F := F) (sM false s) c), bigSep_univ_at _ 0]
  iintro ⟨H0, H⟩
  unfold sAny
  icases H0 with ⟨%f₀, H0⟩
  iapply (pointsTo_blocks_join_exists (ℓ := (Memref.whole cc0_scratch5).view.loc (c : Thread nD τ)) (fun s : Fin 4 => (rect4 s).set) rect4_disjoint rect4_cover f₀)
  rw [bigSep_univ_at _ (0 : Fin 4)]
  isplitl [H0]
  · iexists f₀; rw [← send_false_set]; iexact H0
  · rw [show (fun s : Fin 4 => (iprop(∃ f : Buf (Elt F) ((Memref.whole cc0_scratch5).view.loc (c : Thread nD τ)), (Memref.whole cc0_scratch5).view.loc (c : Thread nD τ) ↦[(rect4 s).set]{fullShare} f) : sProp 𝕄))
      = fun s : Fin 4 => (iprop(∃ f : Buf (Elt F) ((sM false s).view.loc (c : Thread nD τ)), (sM false s).view.loc (c : Thread nD τ) ↦[(sM false s).view.set]{fullShare} f) : sProp 𝕄) from funext fun s => by rw [send_false_set]]
    iexact H

theorem recv_true_set (s : Fin 6) : (rM true s).view.set = (rect6 s).set := (View.set_reshape _ _).trans (View.set_slice_whole _ _)
theorem recv_true_split (c : Dev nD) (f : FVec F S6x128x1024 .bf16) : pt (F := F) c cc0_scratch4 f ⊢ six fun s => sAny (rM true s) c := by
  rw [← six_eq]
  unfold pt sAny
  refine (loc_blocks ((Memref.whole cc0_scratch4).view.loc (c : Thread nD τ)) (fun s : Fin 6 => (rect6 s).set) rect6_disjoint rect6_cover f).trans ?_
  refine bigSep_mono fun s _ => ?_
  rw [recv_true_set]
  exact BI.Entails.refl _
theorem recv_true_join (c : Dev nD) : ((six fun s => sAny (rM true s) c) : sProp 𝕄) ⊢ iprop(∃ f, pt (F := F) c cc0_scratch4 f) := by
  rw [← six_eq (fun s => sAny (F := F) (rM true s) c), bigSep_univ_at _ 0]
  iintro ⟨H0, H⟩
  unfold sAny
  icases H0 with ⟨%f₀, H0⟩
  iapply (pointsTo_blocks_join_exists (ℓ := (Memref.whole cc0_scratch4).view.loc (c : Thread nD τ)) (fun s : Fin 6 => (rect6 s).set) rect6_disjoint rect6_cover f₀)
  rw [bigSep_univ_at _ (0 : Fin 6)]
  isplitl [H0]
  · iexists f₀; rw [← recv_true_set]; iexact H0
  · rw [show (fun s : Fin 6 => (iprop(∃ f : Buf (Elt F) ((Memref.whole cc0_scratch4).view.loc (c : Thread nD τ)), (Memref.whole cc0_scratch4).view.loc (c : Thread nD τ) ↦[(rect6 s).set]{fullShare} f) : sProp 𝕄))
      = fun s : Fin 6 => (iprop(∃ f : Buf (Elt F) ((rM true s).view.loc (c : Thread nD τ)), (rM true s).view.loc (c : Thread nD τ) ↦[(rM true s).view.set]{fullShare} f) : sProp 𝕄) from funext fun s => by rw [recv_true_set]]
    iexact H

theorem recv_false_set (s : Fin 6) : (rM false s).view.set = (rect6 s).set := (View.set_reshape _ _).trans (View.set_slice_whole _ _)
theorem recv_false_split (c : Dev nD) (f : FVec F S6x128x1024 .bf16) : pt (F := F) c cc0_scratch6 f ⊢ six fun s => sAny (rM false s) c := by
  rw [← six_eq]
  unfold pt sAny
  refine (loc_blocks ((Memref.whole cc0_scratch6).view.loc (c : Thread nD τ)) (fun s : Fin 6 => (rect6 s).set) rect6_disjoint rect6_cover f).trans ?_
  refine bigSep_mono fun s _ => ?_
  rw [recv_false_set]
  exact BI.Entails.refl _
theorem recv_false_join (c : Dev nD) : ((six fun s => sAny (rM false s) c) : sProp 𝕄) ⊢ iprop(∃ f, pt (F := F) c cc0_scratch6 f) := by
  rw [← six_eq (fun s => sAny (F := F) (rM false s) c), bigSep_univ_at _ 0]
  iintro ⟨H0, H⟩
  unfold sAny
  icases H0 with ⟨%f₀, H0⟩
  iapply (pointsTo_blocks_join_exists (ℓ := (Memref.whole cc0_scratch6).view.loc (c : Thread nD τ)) (fun s : Fin 6 => (rect6 s).set) rect6_disjoint rect6_cover f₀)
  rw [bigSep_univ_at _ (0 : Fin 6)]
  isplitl [H0]
  · iexists f₀; rw [← recv_false_set]; iexact H0
  · rw [show (fun s : Fin 6 => (iprop(∃ f : Buf (Elt F) ((Memref.whole cc0_scratch6).view.loc (c : Thread nD τ)), (Memref.whole cc0_scratch6).view.loc (c : Thread nD τ) ↦[(rect6 s).set]{fullShare} f) : sProp 𝕄))
      = fun s : Fin 6 => (iprop(∃ f : Buf (Elt F) ((rM false s).view.loc (c : Thread nD τ)), (rM false s).view.loc (c : Thread nD τ) ↦[(rM false s).view.set]{fullShare} f) : sProp 𝕄) from funext fun s => by rw [recv_false_set]]
    iexact H

end Cert.KernelIdeal.Ring

end
-- ==== Proof.Region.lean ====
/-
  The kernel's region: what a device brings to it and takes from it, the contents of its operands and of its result.
-/
module

public import proofs.«01_k».proof.Proof.Glue

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type}

local notation "𝕄" => MT nD τ sig Unit (Elt F) ℕ UU ℕ

theorem bool_eq (P : Bool → sProp 𝕄) : (bigSep Finset.univ P : sProp 𝕄) = iprop(P false ∗ P true) := by
  rw [show (Finset.univ : Finset Bool) = {false, true} from by decide, bigSep_insert (by decide), bigSep_singleton]
  rfl

/-- Over both directions and all stages. -/
theorem all_eq (P : Bool × Fin 6 → sProp 𝕄) :
    (bigSep Finset.univ P : sProp 𝕄) = iprop((six fun s => P (false, s)) ∗ (six fun s => P (true, s))) := by
  rw [bigSep_univ_prod, bool_eq, six_eq, six_eq]

/-! ## A window is its whole array -/

theorem view_whole {b : Ref sig .tc} (off : Fin b.ty.shape.rank → ℕ) (inb) (h : ∀ a, off a = 0) (g : b.ty.Contents (Elt F)) :
    ((View.whole b).slice (Rect.unit off b.ty.shape.size inb)).read (Elt F) g = g := by
  funext i
  show g ((Rect.unit off b.ty.shape.size inb).toLoadRect.idx i) = g i
  refine congrArg g (funext fun a => Fin.ext ?_)
  show off a + 1 * (i a).val = (i a).val
  rw [h]; omega

theorem mem_whole {b : Ref sig .tc} (off : Fin b.ty.shape.rank → ℕ) (inb) (h : ∀ a, off a = 0) (i : b.ty.Idx) :
    i ∈ ((View.whole b).slice (Rect.unit off b.ty.shape.size inb)).set := by
  rw [View.set_slice_whole, Rect.mem_set_unit]
  exact fun a => ⟨by rw [h]; exact Nat.zero_le _, by rw [h, Nat.zero_add]; exact (i a).isLt⟩

/-! ## Opening the transfers' semaphores -/

section

variable [FloatOps F] [Named F]

/-- What a device holds for one transfer before its semaphores are opened. -/
def Dorm (p : Bool × Fin 6) (c : Dev nD) : sProp 𝕄 :=
  iprop(openTok ER (sendCell p.1 p.2 c) ∗ openTok ER (recvCell p.1 p.2 c)
    ∗ dutyTok ER (sendCell p.1 p.2 c) 0 true ∗ dutyTok ER (recvCell p.1 p.2 (to_ p.1 c)) 0 true
    ∗ cred (tallyAt (recvCell p.1 p.2 c) () N))
/-- And after. -/
def Opn (p : Bool × Fin 6) (c : Dev nD) : sProp 𝕄 := iprop(Stg p.1 p.2 c ∗ reached ER (recvCell p.1 p.2 c) 0)

theorem open_one (H : Hops F) (K : GSem nD τ sig → ℕ) (p : Bool × Fin 6) (c : Dev nD) :
    iprop(records H K ∗ (Dorm p c ∗ (semVal (sendCell p.1 p.2 c) 0 ∗ semVal (recvCell p.1 p.2 c) 0))) ⊢ (|={Set.univ}=> Opn p c : sProp 𝕄) := by
  unfold Dorm Opn Stg
  iintro ⟨#HR, ⟨HoS, HoR, HtS, HtR, Hc⟩, HvS, HvR⟩
  ihave #HIS := (inv_at H K (send_mem p.1 p.2 c)) $$ HR
  ihave #HIR := (inv_at H K (recv_mem p.1 p.2 c)) $$ HR
  imod (Rounds.cell_open ER (ringRd H) (g := sendCell p.1 p.2 c) (Set.mem_univ (K (sendCell p.1 p.2 c)))) $$ [HoS HvS] with ⟨HaS, #HrS⟩
  · isplitr; · iexact HIS
    isplitl [HoS] <;> iassumption
  imod (Rounds.cell_open ER (ringRd H) (g := recvCell p.1 p.2 c) (Set.mem_univ (K (recvCell p.1 p.2 c)))) $$ [HoR HvR] with ⟨HaR, #HrR⟩
  · isplitr; · iexact HIR
    isplitl [HoR] <;> iassumption
  imodintro
  isplitl
  · isplitl [HtS]; · iexact HtS
    isplitl [HtR]; · iexact HtR
    isplitl [HaS]; · iexact HaS
    isplitr; · iexact HrS
    isplitl [HaR]; · iexact HaR
    iexact Hc
  iexact HrR

/-- The transfers' semaphores, as the region counts them. -/
def osem (p : (Bool × Fin 6) × Bool) : SemLoc sig := .dma (dmaAt p)

theorem own_facts : Pipeline.OwnSemFacts spec0 osem := by decide

theorem ownSems_eq (c : Dev nD) : (Pipeline.ownSems0 osem c : sProp 𝕄)
    = bigSep Finset.univ fun p : Bool × Fin 6 => iprop(semVal (sendCell p.1 p.2 c) 0 ∗ semVal (recvCell p.1 p.2 c) 0) := by
  unfold Pipeline.ownSems0
  rw [bigSep_univ_prod]
  exact bigSep_congr fun p _ => bool_eq _

end

section

variable [FloatOps F] [Named F] (m : (ℓ : Loc nD τ sig) → Buf (Elt F) ℓ)

/-- The kernel's operands, as the host leaves them. -/
def ins : Ins F where
  x c := V1 m c main_v5
  wq c := V1 m c main_v10
  k c := V1 m c main_v16
  v c := V1 m c main_v17
  wo c := V1 m c main_v15

/-- What the launch gives a device for the region. -/
def Tk (c : Dev nD) : sProp 𝕄 :=
  iprop((∃ K, records (hop (ins m)) K)
    ∗ dutyTok ER (barCell (from_ true c)) 0 true ∗ dutyTok ER (barCell (from_ false c)) 0 false
    ∗ atPos ER (barCell c) 0 ∅ 0 ∗ cred (tallyAt (barCell c) () 2)
    ∗ bigSep Finset.univ fun p : Bool × Fin 6 => Dorm p c)
/-- The same with the transfers' semaphores opened. -/
def Xk (c : Dev nD) : sProp 𝕄 :=
  iprop((∃ K, records (hop (ins m)) K) ∗ levAts L lv
    ∗ dutyTok ER (barCell (from_ true c)) 0 true ∗ dutyTok ER (barCell (from_ false c)) 0 false
    ∗ atPos ER (barCell c) 0 ∅ 0 ∗ cred (tallyAt (barCell c) () 2)
    ∗ bigSep Finset.univ fun p : Bool × Fin 6 => Opn p c)

theorem open_all (c : Dev nD) : iprop(Tk m c ∗ Pipeline.ownSems0 osem c ∗ levAts L lv) ⊢ (|={Set.univ}=> Xk m c : sProp 𝕄) := by
  have h (K : GSem nD τ sig → ℕ) : iprop(records (hop (ins m)) K ∗ bigSep Finset.univ fun p : Bool × Fin 6 =>
        iprop(Dorm p c ∗ (semVal (sendCell p.1 p.2 c) 0 ∗ semVal (recvCell p.1 p.2 c) 0)))
      ⊢ (|={Set.univ}=> bigSep Finset.univ fun p : Bool × Fin 6 => Opn p c : sProp 𝕄) :=
    (bigSep_with_persistent fun p _ => open_one (hop (ins m)) K p c).trans (bigSep_fupd _ _)
  rw [ownSems_eq]
  unfold Tk Xk
  iintro ⟨⟨⟨%K, #HR⟩, Ht, Hf, Ha, Hc, HD⟩, HS, #Hlev⟩
  imod (h K) $$ [HD HS] with HO
  · isplitr; · iexact HR
    iapply (show iprop((bigSep Finset.univ fun p : Bool × Fin 6 => (Dorm p c : sProp 𝕄)) ∗ bigSep Finset.univ fun p : Bool × Fin 6 => iprop(semVal (sendCell p.1 p.2 c) 0 ∗ semVal (recvCell p.1 p.2 c) 0)) ⊢ _ from
      Entails.of_eq (bigSep_sep' _ _ _).symm)
    isplitl [HD] <;> iassumption
  imodintro
  isplitr; · iexists K; iexact HR
  isplitr; · iexact Hlev
  isplitl [Ht]; · iexact Ht
  isplitl [Hf]; · iexact Hf
  isplitl [Ha]; · iexact Ha
  isplitl [Hc]; · iexact Hc
  iexact HO

/-- The scoped buffers no window stages. -/
abbrev scr (c : Dev nD) : sProp 𝕄 := Pipeline.scopedRest (Ix := Unit) (Name := ℕ) (U := UU) (Lvl := ℕ) (Val := Elt F) spec0 c

/-- The region's contents and invariant, before and after its one point. -/
def dat0 (c : Dev nD) : Dat τ (Elt F) Unit ℕ UU ℕ cfg0 c where
  A w := V1 m c (Proc.devRef .tc (Pipeline.arrRef spec0 w))
  after
    | 0 => fun _ => (ins m).x c
    | 1 => fun _ => (ins m).wq c
    | 2 => fun _ => (ins m).k c
    | 3 => fun _ => (ins m).v c
    | 4 => fun _ => (ins m).wo c
    | 5 => fun _ => finalOut (ins m)
    | ⟨_ + 6, h⟩ => absurd h (Nat.not_lt.2 (Nat.le_add_left _ _))
  Φ t := if t.val = 0 then iprop(Xk m c ∗ scr c ∗ ∃ r, prngReg c r)
    else iprop(semVal (barCell c) 0 ∗ Pipeline.ownSems0 osem c ∗ scr c ∗ ∃ r, prngReg c r)
  q _ := fullShare
  owed t := if t.val = 0 then O₀ c else 0

abbrev pdats : (p : Fin 1) → (c : Dev nD) → Dat τ (Elt F) Unit ℕ UU ℕ (cfgs p) c
  | 0 => dat0 m

theorem owed_first (c : Dev nD) : (dat0 m c).owed t0_0.castSucc = O₀ c := by
  show (if t0_0.castSucc.val = 0 then O₀ c else 0) = O₀ c
  exact if_pos rfl
theorem owed_zero (c : Dev nD) : (dat0 m c).owed 0 = O₀ c := by
  show (if (0 : Fin (cfg0.N + 1)).val = 0 then O₀ c else 0) = O₀ c
  exact if_pos rfl
theorem owed_last (c : Dev nD) : (dat0 m c).owed (Fin.last _) = 0 := by
  show (if (Fin.last cfg0.N).val = 0 then O₀ c else 0) = 0
  exact if_neg (by rw [Fin.val_last]; decide)

theorem owesAt_intro (c : Dev nD) (t : Fin (cfg0.N + 1)) (O : CellTallies nD τ sig Unit) (h0 : (dat0 m c).owed t = O) :
    (ow c O : sProp 𝕄) ⊢ ((dat0 m c).owesAt () t : sProp 𝕄) := by
  unfold Dat.owesAt Pipeline.owesWithin Dat.bound ow; rw [h0]
  iintro ⟨%W, HO⟩; iexists W; isplitr; · ipureintro; exact fun _ _ => Or.inl trivial
  iexact HO
theorem owesAt_elim (c : Dev nD) (t : Fin (cfg0.N + 1)) (O : CellTallies nD τ sig Unit) (h0 : (dat0 m c).owed t = O) :
    ((dat0 m c).owesAt () t : sProp 𝕄) ⊢ (ow c O : sProp 𝕄) := by
  unfold Dat.owesAt Pipeline.owesWithin ow; rw [h0]
  iintro ⟨%W, -, HO⟩; iexists W; iexact HO

theorem before_0 (c : Dev nD) (d) : (dat0 m c).before 0 t0_0 d = (ins m).x c := by
  have h : (dat0 m c).before 0 t0_0 d = ((View.whole main_v5).slice (win0_0.rect t0_0)).read (Elt F) (V1 m c main_v5) := by
    unfold Dat.before; rw [if_pos (fetch0_0 t0_0)]; rfl
  rw [h]
  refine view_whole (b := main_v5) _ _ ?_ _
  decide
theorem before_1 (c : Dev nD) (d) : (dat0 m c).before 1 t0_0 d = (ins m).wq c := by
  have h : (dat0 m c).before 1 t0_0 d = ((View.whole main_v10).slice (win0_1.rect t0_0)).read (Elt F) (V1 m c main_v10) := by
    unfold Dat.before; rw [if_pos (fetch0_1 t0_0)]; rfl
  rw [h]
  refine view_whole (b := main_v10) _ _ ?_ _
  decide
theorem before_2 (c : Dev nD) (d) : (dat0 m c).before 2 t0_0 d = (ins m).k c := by
  have h : (dat0 m c).before 2 t0_0 d = ((View.whole main_v16).slice (win0_2.rect t0_0)).read (Elt F) (V1 m c main_v16) := by
    unfold Dat.before; rw [if_pos (fetch0_2 t0_0)]; rfl
  rw [h]
  refine view_whole (b := main_v16) _ _ ?_ _
  decide
theorem before_3 (c : Dev nD) (d) : (dat0 m c).before 3 t0_0 d = (ins m).v c := by
  have h : (dat0 m c).before 3 t0_0 d = ((View.whole main_v17).slice (win0_3.rect t0_0)).read (Elt F) (V1 m c main_v17) := by
    unfold Dat.before; rw [if_pos (fetch0_3 t0_0)]; rfl
  rw [h]
  refine view_whole (b := main_v17) _ _ ?_ _
  decide
theorem before_4 (c : Dev nD) (d) : (dat0 m c).before 4 t0_0 d = (ins m).wo c := by
  have h : (dat0 m c).before 4 t0_0 d = ((View.whole main_v15).slice (win0_4.rect t0_0)).read (Elt F) (V1 m c main_v15) := by
    unfold Dat.before; rw [if_pos (fetch0_4 t0_0)]; rfl
  rw [h]
  refine view_whole (b := main_v15) _ _ ?_ _
  decide

/-- The result's array ends as the body left its window. -/
theorem arrAt_5 (c : Dev nD) : (dat0 m c).arrAt 5 cfg0.N = finalOut (ins m) := by
  refine (dat0 m c).arrAt_eq_of_cover 5 (finalOut (ins m)) (fun t _ => ?_) (fun i => ⟨t0_0, flush0_5 t0_0, ?_⟩)
  · obtain rfl := fin_N0 t
    refine (view_whole (b := main_v18) _ _ ?_ _).symm
    decide
  · refine mem_whole (b := main_v18) _ _ ?_ i
    decide

end

end Cert.KernelIdeal.Ring

end
-- ==== Proof.Record.lean ====
/-
  The kernel's region: its body's run as the region's obligation, and the region's record.
-/
module

public import proofs.«01_k».proof.Proof.Region
public import Idealize.ShloMosaic.Lib.Pipeline.RegionTalk

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type}

local notation "𝕄" => MT nD τ sig Unit (Elt F) ℕ UU ℕ

section

variable [FloatOps F] [Named F] (m : (ℓ : Loc nD τ sig) → Buf (Elt F) ℓ)

/-! ## From the region's invariant to the body's start -/

theorem owns_pt (c : Dev nD) (b : Ref sig .tc) (X : b.ty.Contents (Elt F)) :
    (owns (Ix := Unit) (Name := ℕ) (U := UU) (Lvl := ℕ) (c : Thread nD τ) (Memref.whole b) fullShare X : sProp 𝕄) = pt (F := F) c b X := by
  unfold owns pt
  simp only [Memref.view_whole, View.read_whole, View.set_whole]
  have h1 : (iprop(∃ f : Buf (Elt F) ((View.whole b).loc (c : Thread nD τ)), ⌜f = X⌝ ∗ ((View.whole b).loc (c : Thread nD τ) ↦{fullShare} f)) : sProp 𝕄)
      ⊢ ((View.whole b).loc (c : Thread nD τ) ↦{fullShare} X) := by
    iintro ⟨%f, %h, H⟩; subst h; iexact H
  have h2 : ((View.whole b).loc (c : Thread nD τ) ↦{fullShare} X : sProp 𝕄)
      ⊢ iprop(∃ f : Buf (Elt F) ((View.whole b).loc (c : Thread nD τ)), ⌜f = X⌝ ∗ ((View.whole b).loc (c : Thread nD τ) ↦{fullShare} f)) := by
    iintro H; iexists X; isplitr; · ipureintro; rfl
    iexact H
  exact BI.equiv_iff.mp ⟨h1, h2⟩

theorem opn_split (c : Dev nD) : (bigSep Finset.univ fun p : Bool × Fin 6 => (Opn p c : sProp 𝕄))
    ⊢ iprop((six fun s => Stg (F := F) true s c) ∗ (six fun s => Stg (F := F) false s c)
      ∗ (bigSep Finset.univ fun s : Fin 6 => reached ER (recvCell true s c) 0) ∗ bigSep Finset.univ fun s : Fin 6 => reached ER (recvCell false s c) 0) := by
  unfold Opn
  rw [bigSep_sep', all_eq (fun p => Stg (F := F) p.1 p.2 c), bigSep_univ_prod, bool_eq]
  iintro ⟨⟨H1, H2⟩, H3, H4⟩
  isplitl [H2]; · iexact H2
  isplitl [H1]; · iexact H1
  isplitl [H4]; · iexact H4
  iexact H3

theorem slots_reached (d : Bool) (c : Dev nD) :
    iprop((six fun s => sAny (F := F) (rM d s) c) ∗ bigSep Finset.univ fun s : Fin 6 => reached ER (recvCell d s c) 0)
      ⊢ (bigSep Finset.univ fun s : Fin 6 => iprop(sAny (F := F) (rM d s) c ∗ reached ER (recvCell d s c) 0) : sProp 𝕄) := by
  rw [bigSep_sep', six_eq (fun s => sAny (F := F) (rM d s) c)]

theorem sems_join (c : Dev nD) :
    iprop((six fun s => semVal (sendCell true s c) 0) ∗ (six fun s => semVal (sendCell false s c) 0)
      ∗ (six fun s => semVal (recvCell true s c) 0) ∗ (six fun s => semVal (recvCell false s c) 0)) ⊢ (Pipeline.ownSems0 osem c : sProp 𝕄) := by
  rw [ownSems_eq, bigSep_sep', all_eq (fun p => semVal (sendCell p.1 p.2 c) 0), all_eq (fun p => semVal (recvCell p.1 p.2 c) 0)]
  iintro ⟨H1, H2, H3, H4⟩
  isplitl [H1 H2]
  · isplitl [H2]; · iexact H2
    iexact H1
  isplitl [H4]; · iexact H4
  iexact H3

theorem scr_eq (c : Dev nD) : (scr (F := F) c : sProp 𝕄)
    = iprop((∃ f, pt (F := F) c cc0_scratch0 f) ∗ (∃ f, pt (F := F) c cc0_scratch1 f) ∗ (∃ f, pt (F := F) c cc0_scratch2 f) ∗ (∃ f, pt (F := F) c cc0_scratch3 f)
      ∗ (∃ f, pt (F := F) c cc0_scratch4 f) ∗ (∃ f, pt (F := F) c cc0_scratch5 f) ∗ (∃ f, pt (F := F) c cc0_scratch6 f)) := scopedRest0_eq c

theorem start_intro (c : Dev nD) (out : FVec F S1x1024x1024 .bf16) :
    iprop(Xk m c ∗ scr c ∗ ow c (O₀ c) ∗ pt (F := F) c cc0_stg0_0 ((ins m).x c) ∗ pt (F := F) c cc0_stg1_0 ((ins m).wq c) ∗ pt (F := F) c cc0_stg2_0 ((ins m).k c)
      ∗ pt (F := F) c cc0_stg3_0 ((ins m).v c) ∗ pt (F := F) c cc0_stg4_0 ((ins m).wo c) ∗ pt (F := F) c cc0_stg5_0 out)
      ⊢ (∃ K, Start (ins m) K c : sProp 𝕄) := by
  rw [scr_eq]
  unfold Xk Start QAny
  iintro ⟨⟨⟨%K, #HR⟩, #Hlev, Ht, Hf, Ha, Hc, HO⟩, ⟨Hq, Hctx, ⟨%A, Hacc⟩, ⟨%f3, Hs3⟩, ⟨%f4, Hs4⟩, ⟨%f5, Hs5⟩, ⟨%f6, Hs6⟩⟩, Ho, Hx, Hwq, Hk, Hv, Hwo, Hout⟩
  ihave Hs3 := (send_true_split c f3) $$ Hs3
  ihave Hs5 := (send_false_split c f5) $$ Hs5
  ihave Hs4 := (recv_true_split c f4) $$ Hs4
  ihave Hs6 := (recv_false_split c f6) $$ Hs6
  ihave Hout := (OutHas_intro (ins m) c out) $$ Hout
  ihave Hacc := (AccHas_intro (ins m) c A) $$ Hacc
  ihave HO := (opn_split c) $$ HO
  icases HO with ⟨HgT, HgF, HrT, HrF⟩
  iexists K
  isplitr; · iexact HR
  isplitr; · iexact Hlev
  isplitl [Hx]; · iexact Hx
  isplitl [Hwq]; · iexact Hwq
  isplitl [Hk]; · iexact Hk
  isplitl [Hv]; · iexact Hv
  isplitl [Hwo]; · iexact Hwo
  isplitl [Hout]; · iexact Hout
  isplitl [Hq]; · iexact Hq
  isplitl [Hctx]; · iexact Hctx
  isplitl [Hacc]; · iexact Hacc
  isplitl [Ho]; · iexact Ho
  isplitl [Ht]; · iexact Ht
  isplitl [Hf]; · iexact Hf
  isplitl [Hs4 HrT]
  · iapply (slots_reached true c); isplitl [Hs4] <;> iassumption
  isplitl [Hs6 HrF]
  · iapply (slots_reached false c); isplitl [Hs6] <;> iassumption
  isplitl [Hc]; · iexact Hc
  isplitl [Ha]; · iexact Ha
  isplitl [Hs3]; · iexact Hs3
  isplitl [Hs5]; · iexact Hs5
  isplitl [HgT]; · iexact HgT
  iexact HgF

theorem finish_elim (c : Dev nD) : (Finish (ins m) c : sProp 𝕄)
    ⊢ iprop((semVal (barCell c) 0 ∗ Pipeline.ownSems0 osem c ∗ scr c) ∗ ow c 0 ∗ pt (F := F) c cc0_stg0_0 ((ins m).x c) ∗ pt (F := F) c cc0_stg1_0 ((ins m).wq c) ∗ pt (F := F) c cc0_stg2_0 ((ins m).k c)
      ∗ pt (F := F) c cc0_stg3_0 ((ins m).v c) ∗ pt (F := F) c cc0_stg4_0 ((ins m).wo c) ∗ pt (F := F) c cc0_stg5_0 (finalOut (ins m))) := by
  rw [scr_eq]
  unfold Finish
  iintro ⟨Hx, Hwq, Hk, Hv, Hwo, Hout, Hq, Hctx, Hacc, Ho, Hb, Hs3, Hs5, Hs4, Hs6, HsT, HsF, HrT, HrF⟩
  isplitr [Ho Hx Hwq Hk Hv Hwo Hout]
  · isplitl [Hb]; · iexact Hb
    isplitl [HsT HsF HrT HrF]
    · iapply (sems_join c)
      isplitl [HsT]; · iexact HsT
      isplitl [HsF]; · iexact HsF
      isplitl [HrT]; · iexact HrT
      iexact HrF
    isplitl [Hq]; · iexact Hq
    isplitl [Hctx]; · iexact Hctx
    isplitl [Hacc]; · iexact Hacc
    isplitl [Hs3]; · iapply (send_true_join c); iexact Hs3
    isplitl [Hs4]; · iapply (recv_true_join c); iexact Hs4
    isplitl [Hs5]; · iapply (send_false_join c); iexact Hs5
    iapply (recv_false_join c); iexact Hs6
  isplitl [Ho]; · iexact Ho
  isplitl [Hx]; · iexact Hx
  isplitl [Hwq]; · iexact Hwq
  isplitl [Hk]; · iexact Hk
  isplitl [Hv]; · iexact Hv
  isplitl [Hwo]; · iexact Hwo
  iexact Hout

/-! ## The obligation -/

theorem Φ_first (c : Dev nD) : (dat0 m c).Φ t0_0.castSucc = iprop(Xk m c ∗ scr c ∗ ∃ r, prngReg c r) := by
  show (if t0_0.castSucc.val = 0 then iprop(Xk m c ∗ scr c ∗ ∃ r, prngReg c r) else iprop(semVal (barCell c) 0 ∗ Pipeline.ownSems0 osem c ∗ scr c ∗ ∃ r, prngReg c r) : sProp 𝕄) = _
  exact if_pos rfl
theorem Φ_zero (c : Dev nD) : (dat0 m c).Φ 0 = iprop(Xk m c ∗ scr c ∗ ∃ r, prngReg c r) := by
  show (if (0 : Fin (cfg0.N + 1)).val = 0 then iprop(Xk m c ∗ scr c ∗ ∃ r, prngReg c r) else iprop(semVal (barCell c) 0 ∗ Pipeline.ownSems0 osem c ∗ scr c ∗ ∃ r, prngReg c r) : sProp 𝕄) = _
  exact if_pos rfl
theorem Φ_succ (c : Dev nD) : (dat0 m c).Φ t0_0.succ = iprop(semVal (barCell c) 0 ∗ Pipeline.ownSems0 osem c ∗ scr c ∗ ∃ r, prngReg c r) := by
  show (if t0_0.succ.val = 0 then iprop(Xk m c ∗ scr c ∗ ∃ r, prngReg c r) else iprop(semVal (barCell c) 0 ∗ Pipeline.ownSems0 osem c ∗ scr c ∗ ∃ r, prngReg c r) : sProp 𝕄) = _
  exact if_neg (by rw [Fin.val_succ]; exact Nat.succ_ne_zero _)
theorem Φ_last (c : Dev nD) : (dat0 m c).Φ (Fin.last cfg0.N) = iprop(semVal (barCell c) 0 ∗ Pipeline.ownSems0 osem c ∗ scr c ∗ ∃ r, prngReg c r) := by
  show (if (Fin.last cfg0.N).val = 0 then iprop(Xk m c ∗ scr c ∗ ∃ r, prngReg c r) else iprop(semVal (barCell c) 0 ∗ Pipeline.ownSems0 osem c ∗ scr c ∗ ∃ r, prngReg c r) : sProp 𝕄) = _
  exact if_neg (by rw [Fin.val_last]; decide)
theorem owed_succ (c : Dev nD) : (dat0 m c).owed t0_0.succ = 0 := by
  show (if t0_0.succ.val = 0 then O₀ c else 0) = 0
  exact if_neg (by rw [Fin.val_succ]; exact Nat.succ_ne_zero _)

def bodyPre (c : Dev nD) : sProp 𝕄 :=
  iprop((Xk m c ∗ scr c ∗ ∃ r, prngReg c r) ∗ (dat0 m c).owesAt () t0_0.castSucc
    ∗ (∃ d, pt (F := F) c cc0_stg0_0 ((dat0 m c).before 0 t0_0 d)) ∗ (∃ d, pt (F := F) c cc0_stg1_0 ((dat0 m c).before 1 t0_0 d))
    ∗ (∃ d, pt (F := F) c cc0_stg2_0 ((dat0 m c).before 2 t0_0 d)) ∗ (∃ d, pt (F := F) c cc0_stg3_0 ((dat0 m c).before 3 t0_0 d))
    ∗ (∃ d, pt (F := F) c cc0_stg4_0 ((dat0 m c).before 4 t0_0 d)) ∗ ∃ d, pt (F := F) c cc0_stg5_0 ((dat0 m c).before 5 t0_0 d))
def bodyPost (c : Dev nD) : sProp 𝕄 :=
  iprop((semVal (barCell c) 0 ∗ Pipeline.ownSems0 osem c ∗ scr c ∗ ∃ r, prngReg c r) ∗ (dat0 m c).owesAt () t0_0.succ
    ∗ pt (F := F) c cc0_stg0_0 ((ins m).x c) ∗ pt (F := F) c cc0_stg1_0 ((ins m).wq c) ∗ pt (F := F) c cc0_stg2_0 ((ins m).k c)
    ∗ pt (F := F) c cc0_stg3_0 ((ins m).v c) ∗ pt (F := F) c cc0_stg4_0 ((ins m).wo c) ∗ pt (F := F) c cc0_stg5_0 (finalOut (ins m)))

set_option maxRecDepth 32000 in
theorem body_obligation (c : Dev nD) : BodyObligation (dat0 (F := F) m c) (defs₀ (F := F)) 𝒱₀ () Set.univ := fun t => by
  obtain rfl := fin_N0 t
  rw [bigSep_W0, bigSep_W0, Φ_first, Φ_succ]
  have e (b : Ref sig .tc) (X : b.ty.Contents (Elt F)) := owns_pt (F := F) c b X
  simp only [e]
  show bodyPre m c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) cc0_scratch7 cc0_scratch8 cc0_scratch9 cc0_scratch10) (fun _ => bodyPost m c)
  unfold bodyPre
  iintro ⟨⟨HX, Hscr, Hp⟩, HO, ⟨%d0, H0⟩, ⟨%d1, H1⟩, ⟨%d2, H2⟩, ⟨%d3, H3⟩, ⟨%d4, H4⟩, ⟨%d5, H5⟩⟩
  ihave HO := (owesAt_elim m c _ (O₀ c) (owed_first m c)) $$ HO
  rw [before_0, before_1, before_2, before_3, before_4]
  ihave HS := (start_intro m c _) $$ [HX Hscr HO H0 H1 H2 H3 H4 H5]
  · isplitl [HX]; · iexact HX
    isplitl [Hscr]; · iexact Hscr
    isplitl [HO]; · iexact HO
    isplitl [H0]; · iexact H0
    isplitl [H1]; · iexact H1
    isplitl [H2]; · iexact H2
    isplitl [H3]; · iexact H3
    isplitl [H4]; · iexact H4
    iexact H5
  icases HS with ⟨%K, HS⟩
  iapply (body_run (ins m) K c fun _ => bodyPost m c)
  isplitl [HS]; · iexact HS
  iintro HF
  ihave HF := (finish_elim m c) $$ HF
  icases HF with ⟨⟨Hb, Hos, Hscr⟩, HO, HW⟩
  unfold bodyPost
  isplitl [Hb Hos Hscr Hp]
  · isplitl [Hb]; · iexact Hb
    isplitl [Hos]; · iexact Hos
    isplitl [Hscr]; · iexact Hscr
    iexact Hp
  isplitl [HO]; · iapply (owesAt_intro m c t0_0.succ 0 (owed_succ m c)); iexact HO
  iexact HW

/-! ## The record -/

/-- What the region leaves: its result on every device. -/
def outs : Outs (F := F) := fun _ r c => if h : r = main_v18 then h ▸ (finalOut (ins m) : (main_v18 : Ref sig .tc).ty.Contents (Elt F)) else m ((c : Thread nD τ).loc r)

theorem V2_result (c : Dev nD) : V2 m (outs m) c main_v18 = finalOut (ins m) := by
  show Function.update (V1 m c) (Proc.devRef .tc main_v18) (outs m 2 main_v18 c) (Proc.devRef .tc main_v18) = _
  rw [Function.update_self]; rfl

theorem O₀_pos {c : Dev nD} {g : GSem nD τ sig} {u : Unit} (h : 0 < O₀ c g u) :
    (∃ p : Bool × Fin 6, g = recvCell p.1 p.2 (to_ p.1 c)) ∨ ∃ e : Dev nD, g = barCell e := by
  unfold O₀ at h
  rw [Pi.add_apply, Finsupp.add_apply] at h
  rcases Nat.add_pos_iff_pos_or_pos.mp h with h | h
  · rw [Pi.add_apply, Finsupp.add_apply] at h
    rcases Nat.add_pos_iff_pos_or_pos.mp h with h | h
    · obtain ⟨p, -, e⟩ := dues_pos h; exact .inl ⟨p, e⟩
    · rw [tallyAt_apply] at h
      split at h
      · next e => exact .inr ⟨_, e.1⟩
      · exact absurd h (Nat.lt_irrefl 0)
  · rw [tallyAt_apply] at h
    split at h
    · next e => exact .inr ⟨_, e.1⟩
    · exact absurd h (Nat.lt_irrefl 0)

theorem cutD (c : Dev nD) (t : Fin (cfg0.N + 1)) (g : GSem nD τ sig) (i : Unit) (h : 0 < (dat0 (F := F) m c).owed t g i) :
    i ∈ L g ∧ (0 : ℕ) < lv g i := by
  have e : (dat0 (F := F) m c).owed t = if t.val = 0 then O₀ c else 0 := rfl
  rw [e] at h
  split at h
  · rcases O₀_pos h with ⟨p, rfl⟩ | ⟨e, rfl⟩
    · exact ⟨by rw [L_tc]; exact Finset.mem_singleton_self _, by rw [lv_recv]; omega⟩
    · exact ⟨by rw [L_tc]; exact Finset.mem_singleton_self _, Nat.one_pos⟩
  · exact absurd h (Nat.lt_irrefl 0)

theorem staging_level : ∀ (w : Fin cfg0.W) (s : Fin (cfg0.win w).nbuf), lvOf (.dma ((cfg0.win w).sem s)) = 0 := by decide

/-- The unscoped buffers that are no window's array. -/
abbrev others : Finset (DevRef τ sig) := Pipeline.ucRefs τ sig \ Pipeline.arrRefs (τ := τ) spec0

def Yk (c : Dev nD) : sProp 𝕄 := semVal (barCell c) 0

theorem hin (c : Dev nD) : iprop(scr c ∗ (∃ r, prngReg c r) ∗ StableHlo.held (c.tc : Thread nD τ) ∅ (V1 m c) ∗ Xk m c) ⊢ (dat0 m c).Φ 0 := by
  rw [Φ_zero]
  iintro ⟨Hs, Hp, -, HX⟩
  isplitl [HX]; · iexact HX
  isplitl [Hs] <;> iassumption

theorem hout (c : Dev nD) : (dat0 m c).Φ (Fin.last cfg0.N)
    ⊢ iprop(scr c ∗ (∃ r, prngReg c r) ∗ StableHlo.held (c.tc : Thread nD τ) ∅ (V2 m (outs m) c) ∗ Pipeline.ownSems0 osem c ∗ Yk c) := by
  rw [Φ_last]
  unfold Yk
  iintro ⟨Hb, Ho, Hs, Hp⟩
  isplitl [Hs]; · iexact Hs
  isplitl [Hp]; · iexact Hp
  isplitr
  · unfold StableHlo.held; rw [BI.bigSep_empty]; iempintro
  isplitl [Ho] <;> iassumption

theorem share_full (c : Dev nD) (w : Fin cfg0.W) : (dat0 m c).share w = fullShare := by
  unfold Dat.share; split <;> rfl

theorem arr_first (c : Dev nD) (w : Fin cfg0.W) : (dat0 m c).arrAt w 0 = V1 m c (Proc.devRef .tc (Pipeline.arrRef spec0 w)) := by
  fin_cases w <;> rfl

theorem arr_last (c : Dev nD) (w : Fin cfg0.W) : (dat0 m c).arrAt w cfg0.N = V2 m (outs m) c (Proc.devRef .tc (Pipeline.arrRef spec0 w)) := by
  fin_cases w
  · exact ((dat0 m c).arrAt_in 0 rfl _).trans (V2_of m (outs m) c main_v5 (by decide)).symm
  · exact ((dat0 m c).arrAt_in 1 rfl _).trans (V2_of m (outs m) c main_v10 (by decide)).symm
  · exact ((dat0 m c).arrAt_in 2 rfl _).trans (V2_of m (outs m) c main_v16 (by decide)).symm
  · exact ((dat0 m c).arrAt_in 3 rfl _).trans (V2_of m (outs m) c main_v17 (by decide)).symm
  · exact ((dat0 m c).arrAt_in 4 rfl _).trans (V2_of m (outs m) c main_v15 (by decide)).symm
  · exact (arrAt_5 m c).trans (V2_result m c).symm

theorem result_mem : (Proc.devRef .tc main_v18 : DevRef τ sig) ∈ Pipeline.arrRefs (τ := τ) spec0 := by
  unfold Pipeline.arrRefs
  exact Finset.mem_map_of_mem _ (Finset.mem_image.mpr ⟨5, Finset.mem_univ _, rfl⟩)

theorem rest_same (c : Dev nD) (b : DevRef τ sig) (hb : b ∈ others) : V2 m (outs m) c b = V1 m c b := by
  refine Function.update_of_ne (fun h => ?_) _ _
  subst h
  exact (Finset.mem_sdiff.mp hb).2 result_mem

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ others (Finset.empty_subset _) launch0.toP rfl (fun c => (body_obligation m c).loose)
    (fun _ => 0) O₀ (fun c => (owed_zero m c).trans (zero_add _).symm) (owed_last m) (fun _ => rfl) (share_full m)
    (V1 m) (V2 m (outs m)) (fun c b hb => rest_same m c b (Finset.mem_sdiff.mp hb).1)
    (Tk m) Yk (Xk m) Yk (open_all m) (hin m) (hout m)
    (fun c => by iintro H; imodintro; iexact H)
    (fun _ => 0)
    ⟨fun c w s => by rw [L_tc]; exact Finset.mem_singleton_self _, fun c w s => le_of_eq (staging_level w s), fun c t g i h => cutD m c t g i h⟩
    (fun _ => iprop(emp))
    (arr_first m) (arr_last m)

theorem arrs_sub : Pipeline.arrRefs (τ := τ) spec0 ⊆ Pipeline.ucRefs τ sig := Pipeline.arrRefs_sub_ucRefs _ winFacts0.arr_unscoped

/-- What rides beside the buffers up to the region. -/
def Rest (c : Dev nD) : sProp 𝕄 := iprop(Tk m c ∗ (∃ r, prngReg c r) ∗ ow c (O₀ c))

theorem reg0_pre (c : Dev nD) : iprop(StableHlo.held (c : Thread nD τ) (Pipeline.ucRefs τ sig) (V1 m c) ∗ Rest m c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [zero_add, StableHlo.held_sub_split (c.tc : Thread nD τ) arrs_sub (V1 m c)]
  unfold Rest ow
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg0_post (c : Dev nD) : (reg0 m).post c
    ⊢ iprop((StableHlo.held (c : Thread nD τ) (Pipeline.ucRefs τ sig) (V2 m (outs m) c) ∗ semVal (barCell c) 0) ∗ ∃ W, owes (c : Thread nD τ) (0 : CellTallies nD τ sig Unit) W) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c ∗ ∃ Wd, owes (c : Thread nD τ) (0 : CellTallies nD τ sig Unit) Wd) ⊢ _
  rw [StableHlo.held_sub_split (c.tc : Thread nD τ) arrs_sub (V2 m (outs m) c)]
  unfold Yk
  iintro ⟨Ha, -, ⟨Hr, -⟩, Hb, HO⟩
  isplitr [HO]
  · isplitl [Ha Hr]
    · isplitl [Ha] <;> iassumption
    iexact Hb
  iexact HO

end

end Cert.KernelIdeal.Ring

end
-- ==== Proof.Launch.lean ====
/-
  The launch: the ring's cells funded, its tokens and credits dealt to the devices, and the run of the whole program.
-/
module

public import proofs.«01_k».proof.Proof.Record
public import Idealize.ShloMosaic.Lib.Pipeline.Kit
public import Idealize.ShloMosaic.Lib.Quiescent

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type}

local notation "𝕄" => MT nD τ sig Unit (Elt F) ℕ UU ℕ

/-! ## What every cell is owed at the launch -/

theorem dma_ne_reg (a : DmaSem sig) : SemLoc.dma a ≠ SemLoc.reg barS := nofun

theorem recv_eq {q p : Bool × Fin 6} {c e : Dev nD} : recvCell q.1 q.2 c = recvCell p.1 p.2 e ↔ q = p ∧ c = e := by
  constructor
  · intro h
    have h' : dmaEmb (c, (q, true)) = dmaEmb (e, (p, true)) := h
    have h2 := dmaEmb.injective h'
    exact ⟨congrArg (fun x => x.2.1) h2, congrArg (fun x => x.1) h2⟩
  · rintro ⟨rfl, rfl⟩; rfl

theorem dues_recv (d c : Dev nD) (q : Bool × Fin 6) : ∀ l : List (Bool × Fin 6),
    dues d l (recvCell q.1 q.2 c) () = if to_ q.1 d = c then N * l.count q else 0
  | [] => by
    show 0 = _
    split <;> simp
  | p :: l => by
    show dues d l (recvCell q.1 q.2 c) () + (tallyAt (recvCell p.1 p.2 (to_ p.1 d)) () N : CellTallies nD τ sig Unit) (recvCell q.1 q.2 c) () = _
    rw [dues_recv d c q l, tallyAt_apply]
    by_cases hq : q = p
    · subst hq
      by_cases hc : to_ q.1 d = c
      · rw [if_pos hc, if_pos hc, if_pos ⟨recv_eq.mpr ⟨rfl, hc.symm⟩, rfl⟩, List.count_cons_self, Nat.mul_succ]
      · rw [if_neg hc, if_neg hc, if_neg (fun h : recvCell q.1 q.2 c = recvCell q.1 q.2 (to_ q.1 d) ∧ () = () => hc (recv_eq.mp h.1).2.symm)]
    · rw [if_neg (fun h : recvCell q.1 q.2 c = recvCell p.1 p.2 (to_ p.1 d) ∧ () = () => hq (recv_eq.mp h.1).1), List.count_cons_of_ne (fun h => hq h.symm), Nat.add_zero]

theorem dues_bar (d c : Dev nD) (l : List (Bool × Fin 6)) : dues d l (barCell c) () = 0 := by
  by_contra h
  obtain ⟨p, -, e⟩ := dues_pos (Nat.pos_of_ne_zero h)
  exact dma_ne_reg _ (congrArg Prod.snd e).symm

theorem bar_eq {c e : Dev nD} : barCell c = barCell e ↔ c = e := ⟨fun h => barEmb.injective h, fun h => h ▸ rfl⟩

theorem bar_ne_recv (c e : Dev nD) (d : Bool) (s : Fin 6) : recvCell d s c ≠ barCell e := fun h => dma_ne_reg _ (congrArg Prod.snd h)

theorem owed_bar (d c : Dev nD) : O₀ d (barCell c) () = (if c = nxt d then 1 else 0) + (if c = prv d then 1 else 0) := by
  unfold O₀
  rw [Pi.add_apply, Finsupp.add_apply, Pi.add_apply, Finsupp.add_apply, dues_bar, tallyAt_apply, tallyAt_apply, Nat.zero_add]
  simp only [bar_eq, and_true]

theorem order_count : ∀ q : Bool × Fin 6, order.count q = 1 := by decide

theorem owed_recv (d c : Dev nD) (q : Bool × Fin 6) : O₀ d (recvCell q.1 q.2 c) () = if d = from_ q.1 c then N else 0 := by
  unfold O₀
  rw [Pi.add_apply, Finsupp.add_apply, Pi.add_apply, Finsupp.add_apply, dues_recv, tallyAt_apply, tallyAt_apply,
    if_neg (fun h : recvCell q.1 q.2 c = barCell (nxt d) ∧ () = () => bar_ne_recv c _ q.1 q.2 h.1),
    if_neg (fun h : recvCell q.1 q.2 c = barCell (prv d) ∧ () = () => bar_ne_recv c _ q.1 q.2 h.1), Nat.add_zero, order_count, Nat.mul_one]
  by_cases h : d = from_ q.1 c
  · rw [if_pos h, if_pos (by rw [h]; exact to_from _ _)]
  · rw [if_neg h, if_neg (fun e => h (by rw [← e]; exact (from_to _ _).symm))]

theorem sum_bar : ∀ c : Dev nD, (∑ d : Dev nD, ((if c = nxt d then 1 else 0) + (if c = prv d then 1 else 0))) = 2 := by decide

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, sum_bar]

theorem launch_recv (q : Bool × Fin 6) (c : Dev nD) :
    tallyOn (recvCell q.1 q.2 c) (launchCredit (Pipeline.owing O₀) 0 (recvCell q.1 q.2 c)) = (tallyAt (recvCell q.1 q.2 c) () N : CellTallies nD τ sig Unit) := by
  unfold tallyAt; refine congrArg _ (Finsupp.ext fun u => ?_); cases u
  rw [Pipeline.launchCredit_owing, Finsupp.single_eq_same, Finset.sum_congr rfl fun d _ => owed_recv d c q,
    Finset.sum_ite_eq' Finset.univ (from_ q.1 c) fun _ => N, if_pos (Finset.mem_univ _)]

/-- The receive semaphores among all of a core's. -/
def recvEmb : Bool × Fin 6 ↪ SemLoc sig :=
  ⟨fun q => .dma (recvS q.1 q.2), fun q p h => (recv_eq.mp (show recvCell q.1 q.2 0 = recvCell p.1 p.2 0 from Prod.ext rfl h)).1⟩

theorem creds (c : Dev nD) : (Pipeline.launchCred O₀ c : sProp 𝕄)
    ⊢ iprop(cred (tallyAt (barCell c) () 2) ∗ bigSep Finset.univ fun q : Bool × Fin 6 => cred (tallyAt (recvCell q.1 q.2 c) () N)) := by
  unfold Pipeline.launchCred
  rw [bigSep_univ_at _ (SemLoc.reg barS), launch_bar]
  refine sep_mono_right ?_
  have e : (bigSep Finset.univ fun q : Bool × Fin 6 => (cred (tallyAt (recvCell q.1 q.2 c) () N) : sProp 𝕄))
      = bigSep (Finset.univ.map recvEmb) fun sm => cred (tallyOn ((c : Thread nD τ), sm) (launchCredit (Pipeline.owing O₀) 0 ((c : Thread nD τ), sm))) := by
    rw [bigSep_map]
    exact bigSep_congr fun q _ => congrArg cred (launch_recv q c).symm
  rw [e]
  refine bigSep_subset fun x hx => ?_
  obtain ⟨q, -, rfl⟩ := Finset.mem_map.mp hx
  exact Finset.mem_erase.mpr ⟨dma_ne_reg _, Finset.mem_univ _⟩

/-! ## The tokens -/

/-- The barrier cells' tokens. -/
def barToks : Finset (GSem nD τ sig × ℕ × Bool) :=
  Finset.univ.map ⟨fun x : Bool × Dev nD => (barCell x.2, 0, x.1), fun _ _ h =>
    Prod.ext (congrArg (fun t : GSem nD τ sig × ℕ × Bool => t.2.2) h) (congrArg (fun t : GSem nD τ sig × ℕ × Bool => t.1.1.1) h)⟩
/-- The transfers' tokens. -/
def dmaToks : Finset (GSem nD τ sig × ℕ × Bool) :=
  Finset.univ.map ⟨fun x : Dev nD × ((Bool × Fin 6) × Bool) => (dmaEmb x, 0, true), fun _ _ h =>
    dmaEmb.injective (congrArg (fun t : GSem nD τ sig × ℕ × Bool => t.1) h)⟩

theorem toks_disjoint : Disjoint barToks dmaToks := by
  rw [Finset.disjoint_left]
  rintro g h₁ h₂
  obtain ⟨x, -, rfl⟩ := Finset.mem_map.mp h₁
  obtain ⟨y, -, h⟩ := Finset.mem_map.mp h₂
  exact dma_ne_reg _ (congrArg (fun t : GSem nD τ sig × ℕ × Bool => t.1.2) h)

theorem disjoint_cells : Disjoint (barCells : Finset (GSem nD τ sig)) dmaCells := by
  rw [Finset.disjoint_left]
  rintro g h₁ h₂
  obtain ⟨c, -, rfl⟩ := Finset.mem_map.mp h₁
  obtain ⟨⟨e, q, b⟩, -, h⟩ := Finset.mem_map.mp h₂
  exact dma_ne_reg _ (congrArg Prod.snd h)

theorem toks_eq : (bigSep (barToks ∪ dmaToks) (fun x => (dutyTok ER x.1 x.2.1 x.2.2 : sProp 𝕄)))
    = iprop(((bigSep Finset.univ fun c : Dev nD => dutyTok ER (barCell c) 0 false) ∗ (bigSep Finset.univ fun c : Dev nD => dutyTok ER (barCell c) 0 true))
      ∗ bigSep Finset.univ fun c : Dev nD => bigSep Finset.univ fun p : Bool × Fin 6 =>
        iprop(dutyTok ER (sendCell p.1 p.2 c) 0 true ∗ dutyTok ER (recvCell p.1 p.2 c) 0 true)) := by
  rw [bigSep_union toks_disjoint]
  unfold barToks dmaToks
  rw [bigSep_map, bigSep_map, bigSep_univ_prod, bool_eq, bigSep_univ_prod]
  have e : (bigSep Finset.univ fun c : Dev nD => bigSep Finset.univ fun x : (Bool × Fin 6) × Bool => (dutyTok ER (dmaEmb (c, x)) 0 true : sProp 𝕄))
      = bigSep Finset.univ fun c : Dev nD => bigSep Finset.univ fun p : Bool × Fin 6 =>
        iprop(dutyTok ER (sendCell p.1 p.2 c) 0 true ∗ dutyTok ER (recvCell p.1 p.2 c) 0 true) := by
    refine bigSep_congr fun c _ => ?_
    rw [bigSep_univ_prod]
    exact bigSep_congr fun p _ => bool_eq _
  rw [← e]
  rfl

/-- The receive tokens of one transfer, each handed to the device that sends it. -/
theorem recv_around (p : Bool × Fin 6) : (bigSep Finset.univ fun c : Dev nD => (dutyTok ER (recvCell p.1 p.2 c) 0 true : sProp 𝕄))
    = bigSep Finset.univ fun c : Dev nD => dutyTok ER (recvCell p.1 p.2 (to_ p.1 c)) 0 true := by
  obtain ⟨d, s⟩ := p
  cases d
  · exact bigSep_univ_equiv ring.symm (fun c : Dev nD => (dutyTok ER (recvCell false s c) 0 true : sProp 𝕄))
  · exact bigSep_univ_equiv ring (fun c : Dev nD => (dutyTok ER (recvCell true s c) 0 true : sProp 𝕄))

theorem univ_swap (Φ : Dev nD → Bool × Fin 6 → sProp 𝕄) : (bigSep Finset.univ fun c => bigSep Finset.univ fun p => Φ c p)
    = bigSep Finset.univ fun p => bigSep Finset.univ fun c => Φ c p := by
  rw [← bigSep_univ_prod (fun x : Dev nD × (Bool × Fin 6) => Φ x.1 x.2), ← bigSep_univ_prod (fun x : (Bool × Fin 6) × Dev nD => Φ x.2 x.1)]
  exact bigSep_univ_equiv (Equiv.prodComm (Bool × Fin 6) (Dev nD)) (fun x : Dev nD × (Bool × Fin 6) => Φ x.1 x.2)

theorem toks_around : (bigSep (barToks ∪ dmaToks) (fun x => (dutyTok ER x.1 x.2.1 x.2.2 : sProp 𝕄)))
    ⊢ bigSep Finset.univ fun c : Dev nD => iprop(dutyTok ER (barCell (from_ true c)) 0 true ∗ dutyTok ER (barCell (from_ false c)) 0 false
      ∗ (bigSep Finset.univ fun p : Bool × Fin 6 => dutyTok ER (sendCell p.1 p.2 c) 0 true)
      ∗ bigSep Finset.univ fun p : Bool × Fin 6 => dutyTok ER (recvCell p.1 p.2 (to_ p.1 c)) 0 true) := by
  have e : (bigSep Finset.univ fun c : Dev nD => bigSep Finset.univ fun p : Bool × Fin 6 => (dutyTok ER (recvCell p.1 p.2 c) 0 true : sProp 𝕄))
      = bigSep Finset.univ fun c : Dev nD => bigSep Finset.univ fun p : Bool × Fin 6 => dutyTok ER (recvCell p.1 p.2 (to_ p.1 c)) 0 true := by
    rw [univ_swap, bigSep_congr (fun p _ => recv_around p), ← univ_swap]
  have e1 : (bigSep Finset.univ fun c : Dev nD => (dutyTok ER (barCell c) 0 true : sProp 𝕄)) = bigSep Finset.univ fun c : Dev nD => dutyTok ER (barCell (from_ true c)) 0 true :=
    bigSep_univ_equiv ring.symm (fun c : Dev nD => (dutyTok ER (barCell c) 0 true : sProp 𝕄))
  have e2 : (bigSep Finset.univ fun c : Dev nD => (dutyTok ER (barCell c) 0 false : sProp 𝕄)) = bigSep Finset.univ fun c : Dev nD => dutyTok ER (barCell (from_ false c)) 0 false :=
    bigSep_univ_equiv ring (fun c : Dev nD => (dutyTok ER (barCell c) 0 false : sProp 𝕄))
  have e3 : (bigSep Finset.univ fun c : Dev nD => bigSep Finset.univ fun p : Bool × Fin 6 =>
        (iprop(dutyTok ER (sendCell p.1 p.2 c) 0 true ∗ dutyTok ER (recvCell p.1 p.2 c) 0 true) : sProp 𝕄))
      = iprop((bigSep Finset.univ fun c : Dev nD => bigSep Finset.univ fun p : Bool × Fin 6 => dutyTok ER (sendCell p.1 p.2 c) 0 true)
        ∗ bigSep Finset.univ fun c : Dev nD => bigSep Finset.univ fun p : Bool × Fin 6 => dutyTok ER (recvCell p.1 p.2 c) 0 true) := by
    rw [bigSep_congr (fun c _ => bigSep_sep' _ _ _), bigSep_sep']
  rw [toks_eq, e3, e, e1, e2, bigSep_sep', bigSep_sep', bigSep_sep']
  iintro ⟨⟨H1, H2⟩, H3, H4⟩
  isplitl [H2]; · iexact H2
  isplitl [H1]; · iexact H1
  isplitl [H3] <;> iassumption

/-! ## The launch element -/

section

variable [FloatOps F] [Named F] (m : (ℓ : Loc nD τ sig) → Buf (Elt F) ℓ) (ρ : Dev nD → PrngReg)

def u₀ : UU :=
  (initOf (Pipeline.cells cfgs cellOf_inj) (Pipeline.launchToks cfgs cellOf_inj), launchOf barCells dmaCells (barToks ∪ dmaToks))

/-- The ring's launch element, held by one device until the devices share it out. -/
def G (c : Dev nD) : sProp 𝕄 := if c = 0 then BI.own (ER (launchOf barCells dmaCells (barToks ∪ dmaToks))) else iprop(emp)

theorem G_all : (bigSep Finset.univ (G (F := F)) : sProp 𝕄) = BI.own (ER (launchOf barCells dmaCells (barToks ∪ dmaToks))) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's part of the ring's ghost state. -/
def Mine (c : Dev nD) : sProp 𝕄 :=
  iprop(atPos ER (barCell c) 0 ∅ 0
    ∗ ((bigSep Finset.univ fun p : Bool × Fin 6 => openTok ER (sendCell p.1 p.2 c)) ∗ bigSep Finset.univ fun p : Bool × Fin 6 => openTok ER (recvCell p.1 p.2 c))
    ∗ (dutyTok ER (barCell (from_ true c)) 0 true ∗ dutyTok ER (barCell (from_ false c)) 0 false
      ∗ (bigSep Finset.univ fun p : Bool × Fin 6 => dutyTok ER (sendCell p.1 p.2 c) 0 true)
      ∗ bigSep Finset.univ fun p : Bool × Fin 6 => dutyTok ER (recvCell p.1 p.2 (to_ p.1 c)) 0 true))

/-- The rest of what a device starts from. -/
def Other (c : Dev nD) : sProp 𝕄 :=
  iprop(StableHlo.held (c : Thread nD τ) (Pipeline.ucRefs τ sig) (V0 m c)
    ∗ (cred (tallyAt (barCell c) () 2) ∗ bigSep Finset.univ fun q : Bool × Fin 6 => cred (tallyAt (recvCell q.1 q.2 c) () N))
    ∗ owes (c : Thread nD τ) (O₀ c) ∅ ∗ ∃ r, prngReg c r)

abbrev T₀ (c : Dev nD) : sProp 𝕄 := iprop(StableHlo.held (c : Thread nD τ) (Pipeline.ucRefs τ sig) (V0 m c) ∗ Rest m c)
abbrev Tₙ (c : Dev nD) : sProp 𝕄 := iprop(StableHlo.held (c : Thread nD τ) (Pipeline.ucRefs τ sig) (V2 m (outs m) c) ∗ semVal (barCell c) 0)

theorem T₀_intro (K : GSem nD τ sig → ℕ) (c : Dev nD) : iprop(records (hop (ins m)) K ∗ (Mine c ∗ Other m c)) ⊢ (T₀ m c : sProp 𝕄) := by
  unfold Mine Other T₀ Rest Tk Dorm ow
  rw [bigSep_sep', bigSep_sep', bigSep_sep', bigSep_sep']
  iintro ⟨#HR, ⟨Ha, ⟨HoS, HoR⟩, HtT, HtF, HtS, HtR⟩, Hh, ⟨HcB, HcR⟩, HO, Hp⟩
  isplitl [Hh]; · iexact Hh
  isplitr [HO Hp]
  · isplitr; · iexists K; iexact HR
    isplitl [HtT]; · iexact HtT
    isplitl [HtF]; · iexact HtF
    isplitl [Ha]; · iexact Ha
    isplitl [HcB]; · iexact HcB
    isplitl [HoS]; · iexact HoS
    isplitl [HoR]; · iexact HoR
    isplitl [HtS]; · iexact HtS
    isplitl [HtR]; · iexact HtR
    iexact HcR
  isplitl [Hp]; · iexact Hp
  iexists ∅; iexact HO

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(Other m c ∗ (semVal (barCell c) 0 ∗ G c)) : sProp 𝕄) := by
    rw [unscopedSems_eq, show (unscopedBufs c (fun b => m ((c.tc : Thread nD τ).loc b)) : sProp 𝕄) = StableHlo.held (c : Thread nD τ) (Pipeline.ucRefs τ sig) (V0 m c) from
      Pipeline.unscopedBufs_held (Ix := Unit) (Name := ℕ) (U := UU) (Lvl := ℕ) c (V0 m c)]
    unfold Other
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : (bigSep Finset.univ fun c : Dev nD => (semVal (barCell c) 0 : sProp 𝕄)) = bigSep barCells (fun g => (semVal g 0 : sProp 𝕄)) :=
    (bigSep_map (s := Finset.univ) barEmb (Φ := fun g : GSem nD τ sig => (semVal g 0 : sProp 𝕄))).symm
  have hat : bigSep barCells (fun g => (atPos ER g 0 ∅ 0 : sProp 𝕄)) = bigSep Finset.univ (fun c : Dev nD => (atPos ER (barCell c) 0 ∅ 0 : sProp 𝕄)) :=
    bigSep_map (s := Finset.univ) barEmb (Φ := fun g : GSem nD τ sig => (atPos ER g 0 ∅ 0 : sProp 𝕄))
  have hopen : bigSep dmaCells (fun g => (openTok ER g : sProp 𝕄))
      = bigSep Finset.univ (fun c : Dev nD => iprop((bigSep Finset.univ fun p : Bool × Fin 6 => openTok ER (sendCell p.1 p.2 c)) ∗ bigSep Finset.univ fun p : Bool × Fin 6 => openTok ER (recvCell p.1 p.2 c))) := by
    rw [bigSep_map, bigSep_univ_prod]
    refine bigSep_congr fun c _ => ?_
    rw [bigSep_univ_prod, ← bigSep_sep']
    exact bigSep_congr fun p _ => bool_eq _
  have hall : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (iprop((bigSep Finset.univ fun c : Dev nD => Other m c) ∗ (bigSep barCells (fun g => (semVal g 0 : sProp 𝕄)))
          ∗ BI.own (ER (launchOf barCells dmaCells (barToks ∪ dmaToks)))) : sProp 𝕄) := by
    rw [← G_all, ← hv, ← bigSep_sep', ← bigSep_sep']
    exact bigSep_mono fun c _ => hcore c
  have hdeal : iprop((bigSep Finset.univ fun c : Dev nD => (Mine c : sProp 𝕄)) ∗ bigSep Finset.univ fun c : Dev nD => Other m c)
      ⊢ (bigSep Finset.univ fun c : Dev nD => iprop(Mine c ∗ Other m c) : sProp 𝕄) := Entails.of_eq (bigSep_sep' _ _ _).symm
  have hmine : iprop((bigSep barCells (fun g => (atPos ER g 0 ∅ 0 : sProp 𝕄))) ∗ bigSep dmaCells (fun g => (openTok ER g : sProp 𝕄))
        ∗ bigSep (barToks ∪ dmaToks) (fun x => (dutyTok ER x.1 x.2.1 x.2.2 : sProp 𝕄)))
      ⊢ (bigSep Finset.univ fun c : Dev nD => Mine c : sProp 𝕄) := by
    rw [hat, hopen]
    refine (sep_mono .rfl (sep_mono .rfl toks_around)).trans (Entails.of_eq ?_)
    unfold Mine
    simp only [bigSep_sep']
  iintro ⟨H, -⟩
  ihave H := hall $$ H
  icases H with ⟨HB, Hv, Hu⟩
  imod (Rounds.fund_launch ER (ringRd (hop (ins m))) disjoint_cells (fun g _ h => h) (barToks ∪ dmaToks)) $$ [Hv Hu] with ⟨%K, -, #Hinv, #Hr, Hat, Hopen, Htok⟩
  · isplitl [Hv]
    · iexact Hv
    · iexact Hu
  imodintro
  iapply (bigSep_with_persistent (R := records (hop (ins m)) K) (Φ := fun c => iprop(Mine c ∗ Other m c)) fun c _ => T₀_intro m K c)
  isplitr
  · unfold records
    isplitr; · iexact Hinv
    iexact Hr
  iapply hdeal
  isplitr [HB]
  · iapply hmine
    isplitl [Hat]; · iexact Hat
    isplitl [Hopen]; · iexact Hopen
    iexact Htok
  · iexact HB

theorem unscoped_eq : ∀ sm : SemLoc sig, sm.isScoped .tc = false → sm = .reg barS := by decide

theorem L_ne (g : GSem nD τ sig) (h : g.1.2 ≠ .tc) : L g = ∅ := if_neg h

set_option backward.isDefEq.respectTransparency.types false in
/-- The run of the whole program: every device ends with the one result, its arguments as they were and every counter at zero. -/
theorem run_main : θ_run defs (onTc (τ := τ) (main (F := F))) ⟨m, fun _ => 0, ρ⟩ (fun r => (∀ c : Dev nD,
      r.2.mem ((c.tc : Thread nD τ).loc main_v18) = finalOut (ins m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) adm (pdats m) () cellOf_inj EP defs₀ 𝒱₀ L lv m ρ main
    (segs m 𝒱₀ L lv (fun _ => Rest m) () (pdats m) (reg0 m))
    (fun c Q => by
      rewrite [main_chain c, Pipeline.Seg.run_eq_chain,
        show (segs m 𝒱₀ L lv (fun _ => Rest m) () (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_ne (G (F := F)) u₀ ?_ (T₀ := T₀ m) (Tₙ := Tₙ m)
    (hch := fun c => ⟨.rfl, reg0_pre m c, reg0_post m c⟩)
    (hinit := init m ρ)
    (QY := fun c s => (∀ b ∈ Pipeline.ucRefs τ sig, s.mem (c, b) = V2 m (outs m) c b) ∧ s.sem (barCell c) = 0)
    (hfin := fun c s' => ?_) (hQ := fun s h hs => ⟨fun c => ?_, ?_⟩)
  · unfold u₀
    iintro Hu
    ihave H := (ownU_pair _ _) $$ Hu
    icases H with ⟨HP, HX⟩
    imodintro
    isplitl [HP]; · iexact HP
    rw [G_all]; iexact HX
  · dsimp only [Tₙ]
    unfold StableHlo.held
    iintro ⟨⟨Hh, Hb⟩, HSI⟩
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    icombine HSI Hb gives %hb
    imodintro
    isplitr
    · ipureintro
      exact ⟨h, by simpa using hb⟩
    · iexact HSI
  · have hm (r : Ref sig .tc) (hr : (Proc.devRef .tc r : DevRef τ sig).isScoped = false) :
        s.mem ((c.tc : Thread nD τ).loc r) = V2 m (outs m) c r :=
      (h c).1 (Proc.devRef .tc r) (Finset.mem_filter.mpr ⟨StableHlo.devRef_mem_tcRefs r, by simpa using hr⟩)
    exact ⟨(hm main_v18 (by decide)).trans (V2_result m c),
      (hm main_arg0 (by decide)).trans (V2_main_arg0 m (outs m) c),
      (hm main_arg1 (by decide)).trans (V2_main_arg1 m (outs m) c),
      (hm main_arg2 (by decide)).trans (V2_main_arg2 m (outs m) c),
      (hm main_arg3 (by decide)).trans (V2_main_arg3 m (outs m) c),
      (hm main_arg4 (by decide)).trans (V2_main_arg4 m (outs m) c)⟩
  · exact sem_eq_zero hs fun c sm hsm => by
      obtain rfl := unscoped_eq sm hsm
      exact (h c).2

end

end Cert.KernelIdeal.Ring

end
-- ==== Proof.Attn.lean ====
/-
  Attention at one query, as a function of its scores and values: keys outside a window whose scores are −∞ may be left out.
-/
module

public import Idealize.ShloMosaic.Lib.Pointwise
public import Idealize.ShloMosaic.Lib.FinSumWindow

@[expose] public section

noncomputable section

namespace Cert.Attn

open Idealize.ShloMosaic

/-- The weights' values added up: each weight is the exponential of its score less the greatest one, divided by the sum of the
    exponentials. -/
def soft {n : ℕ} (S V : Fin n → EReal) : EReal :=
  ∑ k, Ideal.div (Ideal.exp (S k - Finset.univ.fold max ⊥ S)) (∑ l, Ideal.exp (S l - Finset.univ.fold max ⊥ S)) * V k

theorem fold_max_eq_sup {n : ℕ} (S : Fin n → EReal) : Finset.univ.fold max ⊥ S = Finset.univ.sup S := rfl

/-- Scores of −∞ outside a window do not count for the greatest one. -/
theorem sup_window {N W : ℕ} (lo : ℕ) (hlo : lo + W ≤ N) (S : Fin N → EReal)
    (hS : ∀ k : Fin N, ¬(lo ≤ k.val ∧ k.val < lo + W) → S k = ⊥) :
    Finset.univ.sup S = Finset.univ.sup fun p : Fin W => S ⟨lo + p.val, by omega⟩ := by
  refine le_antisymm (Finset.sup_le fun k _ => ?_)
    (Finset.sup_le fun p _ => Finset.le_sup (f := S) (Finset.mem_univ (⟨lo + p.val, by omega⟩ : Fin N)))
  by_cases hk : lo ≤ k.val ∧ k.val < lo + W
  · have e : k = ⟨lo + (⟨k.val - lo, by omega⟩ : Fin W).val, by show lo + (k.val - lo) < N; omega⟩ :=
      Fin.ext (by show k.val = lo + (k.val - lo); omega)
    rw [e]
    exact Finset.le_sup (f := fun p : Fin W => S ⟨lo + p.val, by omega⟩) (Finset.mem_univ _)
  · rw [hS k hk]; exact bot_le

theorem exp_nonneg (x : EReal) : 0 ≤ Ideal.exp x := by
  induction x with
  | bot => exact le_refl _
  | top => exact le_top
  | coe r => exact EReal.coe_nonneg.2 (Real.exp_pos r).le

theorem exp_bot_sub (x : EReal) : Ideal.exp (⊥ - x) = 0 := by
  rw [EReal.bot_sub]; rfl

/-- A finite greatest score makes the sum of the exponentials positive. -/
theorem sum_pos {n : ℕ} (S : Fin n → EReal) (hT : ∀ k, S k ≠ ⊤) (hB : ∃ k, S k ≠ ⊥) :
    (∑ l, Ideal.exp (S l - Finset.univ.fold max ⊥ S)) ≠ 0 := by
  obtain ⟨k₀, h₀⟩ := hB
  obtain ⟨k, -, hk⟩ := Finset.exists_mem_eq_sup Finset.univ ⟨k₀, Finset.mem_univ k₀⟩ S
  rw [fold_max_eq_sup, hk]
  have hb : S k ≠ ⊥ := fun h => h₀ (le_bot_iff.1 (by rw [← h, ← hk]; exact Finset.le_sup (Finset.mem_univ k₀)))
  have h1 : Ideal.exp (S k - S k) = 1 := by
    rw [EReal.sub_self (hT k) hb]
    show ((Real.exp 0 : ℝ) : EReal) = 1
    rw [Real.exp_zero]; rfl
  intro h
  have := Finset.single_le_sum (s := Finset.univ) (f := fun l => Ideal.exp (S l - S k)) (fun l _ => exp_nonneg _) (Finset.mem_univ k)
  rw [h, h1] at this
  exact absurd this (not_le.2 zero_lt_one)

theorem div_zero_left {x : EReal} (h : x ≠ 0) : Ideal.div 0 x = 0 := by
  rw [Ideal.div, if_neg h, zero_mul]

/-- Keys outside a window may be left out if their scores are −∞, no score is +∞ and some score is finite. -/
theorem soft_window {N W : ℕ} (lo : ℕ) (hlo : lo + W ≤ N) (S V : Fin N → EReal)
    (hS : ∀ k : Fin N, ¬(lo ≤ k.val ∧ k.val < lo + W) → S k = ⊥) (hT : ∀ k, S k ≠ ⊤) (hB : ∃ k, S k ≠ ⊥) :
    soft S V = soft (fun p : Fin W => S ⟨lo + p.val, by omega⟩) (fun p : Fin W => V ⟨lo + p.val, by omega⟩) := by
  have hpos := sum_pos S hT hB
  unfold soft
  rw [fold_max_eq_sup, fold_max_eq_sup, ← sup_window lo hlo S hS] at *
  have hz : (∑ l, Ideal.exp (S l - Finset.univ.sup S))
      = ∑ p : Fin W, Ideal.exp (S ⟨lo + p.val, by omega⟩ - Finset.univ.sup S) :=
    FinSumWindow.sum_window lo hlo (fun l => Ideal.exp (S l - Finset.univ.sup S)) fun k hk => by
      show Ideal.exp (S k - _) = 0
      rw [hS k hk, exp_bot_sub]
  rw [← hz]
  refine FinSumWindow.sum_window lo hlo
    (fun k => Ideal.div (Ideal.exp (S k - Finset.univ.sup S)) (∑ l, Ideal.exp (S l - Finset.univ.sup S)) * V k) fun k hk => ?_
  show Ideal.div (Ideal.exp (S k - _)) _ * V k = 0
  rw [hS k hk, exp_bot_sub, div_zero_left hpos, zero_mul]

/-! ## Finite numbers -/

/-- Neither infinity. -/
def Fin' (x : EReal) : Prop := x ≠ ⊥ ∧ x ≠ ⊤

theorem Fin'.coe (r : ℝ) : Fin' (r : EReal) := ⟨EReal.coe_ne_bot r, EReal.coe_ne_top r⟩

theorem Fin'.exists {x : EReal} (h : Fin' x) : ∃ r : ℝ, x = r := ⟨x.toReal, (EReal.coe_toReal h.2 h.1).symm⟩

theorem Fin'.mul {x y : EReal} (hx : Fin' x) (hy : Fin' y) : Fin' (x * y) := by
  obtain ⟨r, rfl⟩ := hx.exists; obtain ⟨s, rfl⟩ := hy.exists
  rw [← EReal.coe_mul]; exact Fin'.coe _

theorem Fin'.add {x y : EReal} (hx : Fin' x) (hy : Fin' y) : Fin' (x + y) := by
  obtain ⟨r, rfl⟩ := hx.exists; obtain ⟨s, rfl⟩ := hy.exists
  rw [← EReal.coe_add]; exact Fin'.coe _

theorem Fin'.sum {ι : Type} (s : Finset ι) {f : ι → EReal} (h : ∀ i, Fin' (f i)) : Fin' (∑ i ∈ s, f i) :=
  Finset.sum_induction f Fin' (fun _ _ => Fin'.add) (Fin'.coe 0) fun i _ => h i

/-! ## A sum in blocks -/

/-- A sum over `4096` is the sum over four blocks of `1024`. -/
theorem sum_blocks (f : Fin 4096 → EReal) : (∑ e, f e) = ∑ c : Fin 4, ∑ e : Fin 1024, f ⟨1024 * c.val + e.val, by omega⟩ := by
  rw [← Fintype.sum_prod_type' (f := fun (c : Fin 4) (e : Fin 1024) => f ⟨1024 * c.val + e.val, by omega⟩)]
  exact (Fintype.sum_equiv (finProdFinEquiv (m := 4) (n := 1024)) _ f fun p =>
    congrArg f (Fin.ext (by show 1024 * p.1.val + p.2.val = p.2.val + 1024 * p.1.val; omega))).symm

/-! ## The whole computation -/

/-- The scores' factor. -/
def scale : EReal := Ideal.ofBits .f32 0x3DB504F3#32

theorem scale_fin : Fin' scale := by
  have : scale = ((11863283 / 134217728 : ℝ) : EReal) := by
    unfold scale
    simp [Ideal.ofBits, Ideal.ieee, -EReal.coe_mul]; norm_num
  rw [this]; exact Fin'.coe _

/-- The key `j` is within reach of the query `i`. -/
def near (i j : ℕ) : Prop := i ≤ j + 128 ∧ j ≤ i + 128

instance (i j : ℕ) : Decidable (near i j) := by unfold near; infer_instance

section
variable (X : Fin 1024 → Fin 1024 → EReal) (Wq : Fin 1024 → Fin 4096 → EReal) (K V : Fin 1024 → Fin 32 → Fin 128 → EReal)
  (Wo : Fin 4096 → Fin 1024 → EReal)

/-- The projected queries. -/
def query (i : Fin 1024) (e : Fin 4096) : EReal := ∑ t, X i t * Wq t e

/-- The score of key `j` for query `i` in head `h`. -/
def score (h : Fin 32) (i j : Fin 1024) : EReal :=
  if near i.val j.val then (∑ d : Fin 128, query X Wq i ⟨128 * h.val + d.val, by omega⟩ * K j h d) * scale else ⊥

/-- Each query's attention, all heads side by side. -/
def context (i : Fin 1024) (e : Fin 4096) : EReal :=
  soft (score X Wq K ⟨e.val / 128, by omega⟩ i) fun j => V j ⟨e.val / 128, by omega⟩ ⟨e.val % 128, Nat.mod_lt _ (by decide)⟩

/-- The result. -/
def output (i o : Fin 1024) : EReal := ∑ e, context X Wq K V i e * Wo e o

variable {X Wq K}

/-- On finite operands no score is +∞ and the query's own is finite. -/
theorem score_fin (hX : ∀ i t, Fin' (X i t)) (hW : ∀ t e, Fin' (Wq t e)) (hK : ∀ j h d, Fin' (K j h d)) (h : Fin 32)
    (i : Fin 1024) : (∀ j, score X Wq K h i j ≠ ⊤) ∧ ∃ j, score X Wq K h i j ≠ ⊥ := by
  have f : ∀ j, Fin' ((∑ d : Fin 128, query X Wq i ⟨128 * h.val + d.val, by omega⟩ * K j h d) * scale) := fun j =>
    (Fin'.sum _ fun d => (Fin'.sum _ fun t => (hX i t).mul (hW t _)).mul (hK j h d)).mul scale_fin
  refine ⟨fun j => ?_, i, ?_⟩
  · unfold score
    split
    · exact (f j).2
    · exact bot_ne_top
  · unfold score
    rw [if_pos ⟨by omega, by omega⟩]
    exact (f i).1

/-- The keys that a block of queries can reach. -/
theorem context_window (hX : ∀ i t, Fin' (X i t)) (hW : ∀ t e, Fin' (Wq t e)) (hK : ∀ j h d, Fin' (K j h d)) (b : Fin 4)
    (r : Fin 256) (e : Fin 4096) :
    context X Wq K V ⟨256 * b.val + r.val, by omega⟩ e
      = soft (fun p : Fin 512 => score X Wq K ⟨e.val / 128, by omega⟩ ⟨256 * b.val + r.val, by omega⟩
            ⟨min 512 (256 * b.val - 128) + p.val, by omega⟩)
          fun p => V ⟨min 512 (256 * b.val - 128) + p.val, by omega⟩ ⟨e.val / 128, by omega⟩ ⟨e.val % 128, Nat.mod_lt _ (by decide)⟩ := by
  have hs := score_fin hX hW hK ⟨e.val / 128, by omega⟩ ⟨256 * b.val + r.val, by omega⟩
  refine soft_window (min 512 (256 * b.val - 128)) (by omega) _ _ (fun k hk => ?_) hs.1 hs.2
  unfold score
  rw [if_neg]
  rintro ⟨h1, h2⟩
  exact hk ⟨by simp only at h1 h2; omega, by simp only at h1 h2; omega⟩

end

end Cert.Attn

end
-- ==== Proof.KernelValue.lean ====
/-
  The kernel's values at the ideal instance, read at an index.
-/
module

public import proofs.«01_k».proof.Proof.Attn
public import proofs.«01_k».proof.Proof.Region

@[expose] public section

noncomputable section

namespace Cert.KernelIdeal.Ring

open Cert.KernelIdeal Cert.KernelIdeal.Gen Cert.Attn

open Idealize.ShloMosaic
open Idealize.ShloMosaic.TcCoe

theorem pay2_apply (x w : FVec Ideal S1024x1024 .bf16) (i e : Fin 1024) :
    k0_pay2 (F := Ideal) x w (ix2 i e) = ∑ t : Fin 1024, x (ix2 i t) * w (ix2 t e) := by
  pointwise [k0_pay2]

theorem pay18_apply (x : FVec Ideal S256x1024 .bf16) (w : FVec Ideal S1024x1024 .bf16) (i : Fin 256) (e : Fin 1024) :
    k0_pay18 (F := Ideal) x w (ix2 i e) = ∑ t : Fin 1024, x (ix2 i t) * w (ix2 t e) := by
  pointwise [k0_pay18]

theorem neg_inf : Ideal.ofBits .f32 0xFF800000#32 = ⊥ := by simp [Ideal.ofBits, Ideal.ieee]

set_option maxRecDepth 16384 in
/-- One head of one block is attention over the keys that its mask lets through. -/
theorem pay4_apply (m : IVec S256x512 1) (q : FVec Ideal S256x128 .bf16) (k v : FVec Ideal S512x128 .bf16) (r : Fin 256) (d : Fin 128) :
    k0_pay4 (F := Ideal) m q k v (ix2 r d)
      = soft (fun p : Fin 512 => if m (ix2 r p) = 1#1 then (∑ t : Fin 128, q (ix2 r t) * k (ix2 p t)) * scale else ⊥)
          fun p => v (ix2 p d) := by
  pointwise [k0_pay4, soft]
  rw [neg_inf]
  rfl

/-- The words that say whether two positions are within reach of each other. -/
theorem near_word (a b : ℕ) (ha : a < 2048) (hb : b < 2048) :
    IntOp.cmpi .sle (IntOp.absi (IntOp.subi (BitVec.ofNat 32 a) (BitVec.ofNat 32 b))) 128#32 = 1#1 ↔ near a b := by
  have key : ∀ n : ℕ, n < 2048 → (IntOp.cmpi .sle (BitVec.ofNat 32 n) 128#32 = 1#1 ↔ n ≤ 128) := by
    intro n hn
    have e : (BitVec.ofNat 32 n).sle 128#32 = decide (n ≤ 128) := by
      rw [BitVec.sle_eq_decide, BitVec.toInt_ofNat', BitVec.toInt_ofNat']
      congr 1
      rw [Int.bmod_def, Int.bmod_def]
      apply propext
      omega
    show BitVec.ofBool ((BitVec.ofNat 32 n).sle 128#32) = 1#1 ↔ _
    rw [e]
    by_cases h : n ≤ 128 <;> simp [h]
  have msb : ∀ n : ℕ, n < 2048 → (BitVec.ofNat 32 n).msb = false := by
    intro n hn
    rw [BitVec.msb_eq_false_iff_two_mul_lt, BitVec.toNat_ofNat]; omega
  have sub : ∀ x y : ℕ, y ≤ x → x < 2048 → BitVec.ofNat 32 x - BitVec.ofNat 32 y = BitVec.ofNat 32 (x - y) := by
    intro x y hxy hx
    apply BitVec.eq_of_toNat_eq
    rw [BitVec.toNat_sub, BitVec.toNat_ofNat, BitVec.toNat_ofNat, BitVec.toNat_ofNat]; omega
  by_cases h : b ≤ a
  · have e : IntOp.absi (IntOp.subi (BitVec.ofNat 32 a) (BitVec.ofNat 32 b)) = BitVec.ofNat 32 (a - b) := by
      show (if (BitVec.ofNat 32 a - BitVec.ofNat 32 b).msb then _ else BitVec.ofNat 32 a - BitVec.ofNat 32 b) = _
      rw [sub a b h ha, msb _ (by omega)]; rfl
    rw [e, key _ (by omega)]; unfold near; omega
  · have n : BitVec.ofNat 32 a - BitVec.ofNat 32 b = -BitVec.ofNat 32 (b - a) := by
      rw [← sub b a (by omega) hb, BitVec.neg_sub, BitVec.add_comm, ← BitVec.sub_eq_add_neg]
    have hm : (-BitVec.ofNat 32 (b - a)).msb = true := by
      rw [BitVec.msb_eq_true_iff_two_mul_ge, BitVec.toNat_neg, BitVec.toNat_ofNat]; omega
    have e : IntOp.absi (IntOp.subi (BitVec.ofNat 32 a) (BitVec.ofNat 32 b)) = BitVec.ofNat 32 (b - a) := by
      show (if (BitVec.ofNat 32 a - BitVec.ofNat 32 b).msb then -(BitVec.ofNat 32 a - BitVec.ofNat 32 b) else _) = _
      rw [n, hm, BitVec.neg_neg]; rfl
    rw [e, key _ (by omega)]; unfold near; omega

theorem mask_word (x y : ℕ) (b : ℕ) (k : ℕ) (h1 : x + b < 2048) (h2 : y + k < 2048) :
    IntOp.cmpi .sle (IntOp.absi (IntOp.subi (IntOp.addi (BitVec.ofNat 32 x) (BitVec.ofNat 32 b))
      (IntOp.addi (BitVec.ofNat 32 y) (BitVec.ofNat 32 k)))) 128#32 = 1#1 ↔ near (b + x) (k + y) := by
  rw [show IntOp.addi (BitVec.ofNat 32 x) (BitVec.ofNat 32 b) = BitVec.ofNat 32 (x + b) from (BitVec.ofNat_add _ _).symm,
    show IntOp.addi (BitVec.ofNat 32 y) (BitVec.ofNat 32 k) = BitVec.ofNat 32 (y + k) from (BitVec.ofNat_add _ _).symm,
    near_word _ _ h1 h2, Nat.add_comm x, Nat.add_comm y]

/-- The mask of a block's queries and keys. -/
theorem pay3_apply (b : Fin 4) (r : Fin 256) (p : Fin 512) :
    k0_pay3 b (ix2 r p) = 1#1 ↔ near (256 * b.val + r.val) (min 512 (256 * b.val - 128) + p.val) := by
  pointwise [k0_pay3]
  rw [← mask_word r.val p.val (256 * b.val) (min 512 (256 * b.val - 128)) (by omega) (by omega)]
  have e1 : ∀ b : Fin 4, Scalar.muli (Scalar.remsi (Scalar.addi (Scalar.remsi (Scalar.divsi (Dev.word b) 1#32) 4#32) 4#32) 4#32) 256#32
      = BitVec.ofNat 32 (256 * b.val) := by decide +kernel
  have e2 : ∀ b : Fin 4, Scalar.minsi 512#32 (Scalar.maxsi 0#32 (Scalar.subi (BitVec.ofNat 32 (256 * b.val)) 128#32))
      = BitVec.ofNat 32 (min 512 (256 * b.val - 128)) := by decide +kernel
  rw [e1, e2]

/-- A box of all of a shape places every index at itself. -/
theorem idx_full {s : Shape} {off : Fin s.rank → ℕ} (inb : ∀ a, off a + s.size a ≤ s.size a) (z : s.Idx) :
    (Rect.unit off s.size inb).toLoadRect.idx z = z :=
  funext fun a => Fin.ext (by
    show off a + 1 * (z a).val = (z a).val
    have := inb a; omega)

theorem full_eq {α : Type} (X : S1024x1024.Idx → α) : full X = X := by
  funext j
  exact congrArg X (idx_full (s := S1024x1024) (off := ![0, 0]) inb_S1024x1024_S1024x1024_0_0 j)

/-! ## The heads side by side -/

section
variable {o : ℕ} (inb : ∀ a : Fin 2, (![0, o] : Fin 2 → ℕ) a + S256x128.size a ≤ S256x1024.size a)
  (w : FVec Ideal S256x128 .bf16) (L : List (View.Piece (Elt Ideal) S256x1024 .bf16)) (r : Fin 256)

theorem canon_hit (e : Fin 1024) (d : Fin 128) (h : e.val = o + d.val) :
    View.canon (⟨Rect.unit (s := S256x1024) ![0, o] S256x128.size inb, w⟩ :: L) (ix2 r e) = w (ix2 r d) := by
  have : (ix2 r e : S256x1024.Idx) = (Rect.unit (s := S256x1024) ![0, o] S256x128.size inb).emb (ix2 r d) := by
    funext a
    refine Fin.ext ?_
    revert a
    refine Fin.forall_fin_two.2 ⟨?_, ?_⟩
    · show r.val = 0 + 1 * r.val; omega
    · show e.val = o + 1 * d.val; omega
  rw [this]
  exact View.canon_cons_emb (Rect.unit (s := S256x1024) ![0, o] S256x128.size inb) w L (ix2 r d)

theorem canon_miss (e : Fin 1024) (h : e.val < o ∨ o + 128 ≤ e.val) :
    View.canon (⟨Rect.unit (s := S256x1024) ![0, o] S256x128.size inb, w⟩ :: L) (ix2 r e) = View.canon L (ix2 r e) := by
  refine View.canon_cons_of_not_mem _ L fun hm => ?_
  obtain ⟨x, hx⟩ := (Rect.unit (s := S256x1024) ![0, o] S256x128.size inb).exists_idx_of_mem hm
  have h1 : o + 1 * (x 1).val = e.val := congrArg (fun y : S256x1024.Idx => (y 1).val) hx
  have h2 : (x 1).val < 128 := (x 1).isLt
  omega

end

theorem heads_apply (g : Fin 8 → FVec Ideal S256x128 .bf16) (r : Fin 256) (h : Fin 8) (d : Fin 128) :
    heads g (ix2 r ⟨128 * h.val + d.val, by omega⟩) = g h (ix2 r d) := by
  have e : ∀ j, (Rect.unit (s := S256x1024) ![0, 0] S256x1024.size inb_S256x1024_S256x1024_0_0).toLoadRect.idx j = j :=
    idx_full (s := S256x1024) (off := ![0, 0]) inb_S256x1024_S256x1024_0_0
  unfold heads
  rw [View.readCov_eq_canon']
  beta_reduce
  rw [e]
  obtain ⟨h, hh⟩ := h
  interval_cases h <;>
    repeat first
      | exact canon_hit _ _ _ _ _ d rfl
      | refine (canon_miss _ _ _ _ _ (by first | omega | (simp only; omega))).trans ?_

end Cert.KernelIdeal.Ring
-- ==== Proof.RingValue.lean ====
/-
  What every device ends with at the ideal instance, read at an index: the sum over the devices of their attention's output,
  projected by their rows of the output matrix.
-/
module

public import proofs.«01_k».proof.Proof.KernelValue

@[expose] public section

noncomputable section

namespace Cert.KernelIdeal.Ring

open Cert.KernelIdeal Cert.KernelIdeal.Gen Cert.Attn

open Idealize.ShloMosaic
open Idealize.ShloMosaic.TcCoe

theorem box_apply {α : Type} (X : S1024x1024.Idx → α) {n k : ℕ} (o₀ o₁ : ℕ)
    (inb : ∀ a : Fin 2, (![o₀, o₁] : Fin 2 → ℕ) a + (![n, k] : Fin 2 → ℕ) a ≤ S1024x1024.size a) (r : Fin n) (d : Fin k)
    (h₀ : o₀ + r.val < 1024) (h₁ : o₁ + d.val < 1024) :
    box (s := S1024x1024) X ![o₀, o₁] ![n, k] inb (ix2 r d) = X (ix2 ⟨o₀ + r.val, h₀⟩ ⟨o₁ + d.val, h₁⟩) := by
  refine congrArg X (funext fun a => Fin.ext ?_)
  match a with
  | 0 => show o₀ + 1 * r.val = o₀ + r.val; omega
  | 1 => show o₁ + 1 * d.val = o₁ + d.val; omega

variable (I : Ins Ideal)

/-- The score of a block's key for a block's query, on one device. -/
def kscore (c : Dev nD) (b : Fin 4) (h : Fin 8) (r : Fin 256) (p : Fin 512) : EReal :=
  if near (256 * b.val + r.val) (min 512 (256 * b.val - 128) + p.val) then
    (∑ t : Fin 128, (∑ s : Fin 1024, I.x c (ix2 ⟨256 * b.val + r.val, by omega⟩ s) * I.wq c (ix2 s ⟨128 * h.val + t.val, by omega⟩))
      * I.k c (ix2 ⟨min 512 (256 * b.val - 128) + p.val, by omega⟩ ⟨128 * h.val + t.val, by omega⟩)) * scale
  else ⊥

/-- One head of a block on one device. -/
theorem head_apply (c : Dev nD) (b : Fin 4) (h : Fin 8) (r : Fin 256) (d : Fin 128) :
    k0_pay4 (F := Ideal) (k0_pay3 b) (box (s := S1024x1024) (qOf I c) ![256 * b.val, 128 * h.val] S256x128.size (inb_qh b h))
        (box (s := S1024x1024) (I.k c) ![min 512 (256 * b.val - 128), 128 * h.val] S512x128.size (inb_kh b h))
        (box (s := S1024x1024) (I.v c) ![min 512 (256 * b.val - 128), 128 * h.val] S512x128.size (inb_kh b h)) (ix2 r d)
      = soft (kscore I c b h r) fun p =>
          I.v c (ix2 ⟨min 512 (256 * b.val - 128) + p.val, by omega⟩ ⟨128 * h.val + d.val, by omega⟩) := by
  rw [pay4_apply]
  congr 1
  · funext p
    unfold kscore
    refine (if_congr (pay3_apply b r p) ?_ rfl)
    congr 1
    refine Finset.sum_congr rfl fun t _ => ?_
    congr 1
    · refine (box_apply (qOf I c) _ _ (inb_qh b h) r t (by omega) (by omega)).trans ?_
      unfold qOf
      rw [full_eq, full_eq, pay2_apply]
    · exact box_apply (I.k c) _ _ (inb_kh b h) p t (by omega) (by omega)
  · funext p
    exact box_apply (I.v c) _ _ (inb_kh b h) p d (by omega) (by omega)

/-- One device's part of a block. -/
theorem accBlk_apply (c : Dev nD) (b : Fin 4) (r : Fin 256) (o : Fin 1024) :
    accBlk I c b (ix2 r o) = ∑ e : Fin 1024, soft (kscore I c b ⟨e.val / 128, by omega⟩ r)
      (fun p => I.v c (ix2 ⟨min 512 (256 * b.val - 128) + p.val, by omega⟩ e)) * I.wo c (ix2 e o) := by
  unfold accBlk blk
  rw [pay18_apply]
  refine Finset.sum_congr rfl fun e _ => ?_
  have he : e = ⟨128 * (⟨e.val / 128, by omega⟩ : Fin 8).val + (⟨e.val % 128, Nat.mod_lt _ (by decide)⟩ : Fin 128).val, by
      show 128 * (e.val / 128) + e.val % 128 < 1024; omega⟩ := Fin.ext (by show e.val = 128 * (e.val / 128) + e.val % 128; omega)
  congr 1
  · refine (congrArg (fun z => heads _ (ix2 r z)) he).trans ((heads_apply _ r _ _).trans ((head_apply I c b _ r _).trans ?_))
    congr 1
    funext p
    exact congrArg (fun z => I.v c (ix2 _ z)) he.symm
  · rw [full_eq]

/-- What travels starts as the sender's own part, -/
theorem hopN_first (d : Bool) (c : Dev nD) (j : S128x1024.Idx) : hopN I d 0 c j = chunk I d c c j := rfl

/-- and each device adds its own. -/
theorem hopN_step (d : Bool) (s : ℕ) (h : s + 1 ≤ 3) (c : Dev nD) (j : S128x1024.Idx) :
    hopN I d (s + 1) c j = chunk I d c (back d (s + 1) c) j + hopN I d s (from_ d c) j := by
  rw [hopN, if_pos h]
  rfl

/-- A half block of the result is the sum of the devices' parts. -/
theorem res_apply (b : Fin 4) (d : Bool) (j : S128x1024.Idx) : res I b d j = ∑ c : Dev nD, chunk I d c b j := by
  have e3 : back d 3 (from_ d b) = b := by revert b d; decide
  have e2 : back d 2 (from_ d (from_ d b)) = b := by revert b d; decide
  have e1 : back d 1 (from_ d (from_ d (from_ d b))) = b := by revert b d; decide
  have e0 : from_ d (from_ d (from_ d (from_ d b))) = b := by revert b d; decide
  have h : res I b d j = chunk I d (from_ d b) b j + (chunk I d (from_ d (from_ d b)) b j
      + (chunk I d (from_ d (from_ d (from_ d b))) b j + chunk I d b b j)) := by
    unfold res
    rw [hopN_step I d 2 (by decide), hopN_step I d 1 (by decide), hopN_step I d 0 (by decide), hopN_first, e0, e1, e2, e3]
  rw [h]
  have s : ∀ f : Dev nD → EReal, f (from_ d b) + (f (from_ d (from_ d b)) + (f (from_ d (from_ d (from_ d b))) + f b)) = ∑ c, f c := by
    intro f
    have hs : (∑ c, f c) = f 0 + f 1 + f 2 + f 3 := Fin.sum_univ_four f
    rw [hs]
    cases d <;> fin_cases b
    · show f 1 + (f 2 + (f 3 + f 0)) = _; ac_rfl
    · show f 2 + (f 3 + (f 0 + f 1)) = _; ac_rfl
    · show f 3 + (f 0 + (f 1 + f 2)) = _; ac_rfl
    · show f 0 + (f 1 + (f 2 + f 3)) = _; ac_rfl
    · show f 3 + (f 2 + (f 1 + f 0)) = _; ac_rfl
    · show f 0 + (f 3 + (f 2 + f 1)) = _; ac_rfl
    · show f 1 + (f 0 + (f 3 + f 2)) = _; ac_rfl
    · show f 2 + (f 1 + (f 0 + f 3)) = _; ac_rfl
  exact s fun c => chunk I d c b j

/-- A half of a block's part. -/
theorem chunk_apply (d : Bool) (c : Dev nD) (b : Fin 4) (i : Fin 128) (o : Fin 1024) :
    chunk I d c b (ix2 i o) = accBlk I c b (ix2 ⟨(if d then 0 else 128) + i.val, by split <;> omega⟩ o) := by
  unfold chunk
  refine congrArg (accBlk I c b) (funext fun a => Fin.ext ?_)
  match a with
  | 0 => show (if d then 0 else 128) + 1 * i.val = (if d then 0 else 128) + i.val; omega
  | 1 => show 0 + 1 * o.val = o.val; omega

/-- The array every device ends with. -/
theorem finalOut_apply (i o : Fin 1024) :
    finalOut I (ix3 0 i o) = ∑ c : Dev nD, accBlk I c ⟨i.val / 256, by omega⟩ (ix2 ⟨i.val % 256, Nat.mod_lt _ (by decide)⟩ o) := by
  have e : finalOut I (ix3 0 i o) = res I ⟨i.val / 256, by omega⟩ (decide (i.val % 256 < 128))
      (ix2 ⟨i.val % 128, Nat.mod_lt _ (by decide)⟩ o) := by
    refine congrArg (res I _ _) (funext fun a => ?_)
    match a with
    | 0 => rfl
    | 1 => rfl
  rw [e, res_apply]
  refine Finset.sum_congr rfl fun c _ => ?_
  rw [chunk_apply]
  refine congrArg (fun z => accBlk I c _ (ix2 z o)) (Fin.ext ?_)
  show (if decide (i.val % 256 < 128) = true then 0 else 128) + i.val % 128 = i.val % 256
  split
  · next h => have := of_decide_eq_true h; omega
  · next h => have : ¬i.val % 256 < 128 := fun h' => h (decide_eq_true h'); omega

end Cert.KernelIdeal.Ring
-- ==== Proof.Operands.lean ====
/-
  The kernel's operands at the region, read at an index of the program's arguments.
-/
module

public import proofs.«01_k».proof.Proof.RingValue
public import Idealize.ShloMosaic.Lib.StableHlo.Run
public import Idealize.ShloMosaic.Lib.Tactic.CleanTypes

@[expose] public section

noncomputable section

namespace Cert.KernelIdeal.Ring

open Cert.KernelIdeal Cert.KernelIdeal.Gen Cert.Attn

open Idealize.ShloMosaic Idealize.ShloMosaic.StableHlo
open Idealize.ShloMosaic.TcCoe

variable (m : (ℓ : Loc nD τ sig) → Buf (Elt Ideal) ℓ)

/-- The columns and rows of a device start at its 1024-fold. -/
theorem start_word (c : Dev nD) : (Scalar.select (IntOp.cmpi .slt (IntOp.muli (IntOp.remui .host (IntOp.divui .host (Dev.word c) 1#32) 4#32) 1024#32) 0#32)
    (IntOp.addi (IntOp.muli (IntOp.remui .host (IntOp.divui .host (Dev.word c) 1#32) 4#32) 1024#32) 4096#32)
    (IntOp.muli (IntOp.remui .host (IntOp.divui .host (Dev.word c) 1#32) 4#32) 1024#32)).toInt = ((1024 * c.val : ℕ) : ℤ) := by
  revert c; decide +kernel

/-- The reshaped input. -/
theorem ins_x (c : Dev nD) (i t : Fin 1024) :
    (ins m).x c (ix2 i t) = m ((c.tc : Thread nD τ).loc main_arg0) (ix3 (0 : Fin 1) i t) := by
  have h : (ins m).x c = shapeCast S1024x1024 (m ((c.tc : Thread nD τ).loc main_arg0)) shapeCasts_S1x1024x1024_S1024x1024 := by
    show (StableHlo.after (hostOps0 c) (V0 m c) : _) (Proc.tc.devRef main_v5) = _
    simp only [hostOps0]
    after_results_simp <;> rfl
  rw [h]
  clean_types
  pointwise []

/-- The reshaped keys. -/
theorem ins_k (c : Dev nD) (i e : Fin 1024) :
    (ins m).k c (ix2 i e) = m ((c.tc : Thread nD τ).loc main_arg2) (ix4 (0 : Fin 1) i (⟨e.val / 128, by omega⟩ : Fin 8) (⟨e.val % 128, Nat.mod_lt _ (by decide)⟩ : Fin 128)) := by
  have h : (ins m).k c = shapeCast S1024x1024 (m ((c.tc : Thread nD τ).loc main_arg2)) shapeCasts_S1x1024x8x128_S1024x1024 := by
    show (StableHlo.after (hostOps0 c) (V0 m c) : _) (Proc.tc.devRef main_v16) = _
    simp only [hostOps0]
    after_results_simp <;> rfl
  rw [h]
  clean_types
  pointwise []

/-- The reshaped values. -/
theorem ins_v (c : Dev nD) (i e : Fin 1024) :
    (ins m).v c (ix2 i e) = m ((c.tc : Thread nD τ).loc main_arg3) (ix4 (0 : Fin 1) i (⟨e.val / 128, by omega⟩ : Fin 8) (⟨e.val % 128, Nat.mod_lt _ (by decide)⟩ : Fin 128)) := by
  have h : (ins m).v c = shapeCast S1024x1024 (m ((c.tc : Thread nD τ).loc main_arg3)) shapeCasts_S1x1024x8x128_S1024x1024 := by
    show (StableHlo.after (hostOps0 c) (V0 m c) : _) (Proc.tc.devRef main_v17) = _
    simp only [hostOps0]
    after_results_simp <;> rfl
  rw [h]
  clean_types
  pointwise []

/-- A device's columns of the query matrix. -/
theorem ins_wq (c : Dev nD) (t e : Fin 1024) :
    (ins m).wq c (ix2 t e) = m ((c.tc : Thread nD τ).loc main_arg1) (ix2 t (⟨1024 * c.val + e.val, by have : c.val < 4 := c.isLt; omega⟩ : Fin 4096)) := by
  have h : (ins m).wq c = Host.dynamicSlice S1024x1024 (m ((c.tc : Thread nD τ).loc main_arg1)) ![0, ((1024 * c.val : ℕ) : ℤ)] sliceFits_S1024x4096_S1024x1024 := by
    rw [← start_word c]
    show (StableHlo.after (hostOps0 c) (V0 m c) : _) (Proc.tc.devRef main_v10) = _
    simp only [hostOps0]
    after_results_simp
    refine congrArg (fun s => Host.dynamicSlice S1024x1024 (m ((c.tc : Thread nD τ).loc main_arg1)) s sliceFits_S1024x4096_S1024x1024) (funext fun k => ?_)
    match k with
    | 0 =>
      dsimp only [Matrix.cons_val_zero]
      after_results_simp
      rfl
    | 1 =>
      dsimp only [Matrix.cons_val_one, Matrix.cons_val_zero]
      after_results_simp
      rfl
  rw [h]
  clean_types
  pointwise []
  have hc : c.val < 4 := c.isLt
  refine congrArg (m ((c.tc : Thread nD τ).loc main_arg1)) (congrArg₂ ix2 (Fin.ext ?_) (Fin.ext ?_))
  · show Host.clampedStart _ _ _ _ _ + t.val = t.val
    simp [Host.clampedStart]
  · show Host.clampedStart _ _ _ _ _ + e.val = 1024 * c.val + e.val
    simp [Host.clampedStart]
    omega

/-- A device's rows of the output matrix. -/
theorem ins_wo (c : Dev nD) (e o : Fin 1024) :
    (ins m).wo c (ix2 e o) = m ((c.tc : Thread nD τ).loc main_arg4) (ix2 (⟨1024 * c.val + e.val, by have : c.val < 4 := c.isLt; omega⟩ : Fin 4096) o) := by
  have h : (ins m).wo c = Host.dynamicSlice S1024x1024 (m ((c.tc : Thread nD τ).loc main_arg4)) ![((1024 * c.val : ℕ) : ℤ), 0] sliceFits_S4096x1024_S1024x1024 := by
    rw [← start_word c]
    show (StableHlo.after (hostOps0 c) (V0 m c) : _) (Proc.tc.devRef main_v15) = _
    simp only [hostOps0]
    after_results_simp
    refine congrArg (fun s => Host.dynamicSlice S1024x1024 (m ((c.tc : Thread nD τ).loc main_arg4)) s sliceFits_S4096x1024_S1024x1024) (funext fun k => ?_)
    match k with
    | 0 =>
      dsimp only [Matrix.cons_val_zero]
      after_results_simp
      rfl
    | 1 =>
      dsimp only [Matrix.cons_val_one, Matrix.cons_val_zero]
      after_results_simp
      rfl
  rw [h]
  clean_types
  pointwise []
  have hc : c.val < 4 := c.isLt
  refine congrArg (m ((c.tc : Thread nD τ).loc main_arg4)) (congrArg₂ ix2 (Fin.ext ?_) (Fin.ext ?_))
  · show Host.clampedStart _ _ _ _ _ + e.val = 1024 * c.val + e.val
    simp [Host.clampedStart]
    omega
  · show Host.clampedStart _ _ _ _ _ + o.val = o.val
    simp [Host.clampedStart]

end Cert.KernelIdeal.Ring
-- ==== Proof.RefValue.lean ====
/-
  The reference's result at the ideal instance, read at an index.
-/
module

public import proofs.«01_k».proof.Proof.Attn
public import proofs.«01_k».proof.Proof.KernelValue
public import proofs.«01_k».proof.Proof.Gen.ReferenceIdeal.Run
public import Idealize.ShloMosaic.Lib.Routing.OpsOrder
public import Idealize.ShloMosaic.Lib.Tactic.CleanTypes

@[expose] public section

noncomputable section

namespace Cert.ReferenceIdeal.Value

open Cert.ReferenceIdeal Cert.ReferenceIdeal.Gen Cert.Attn

open Idealize.ShloMosaic
open Idealize.ShloMosaic.TcCoe

section
variable (x : FVec Ideal S1x1024x1024 .bf16) (w : FVec Ideal S1024x4096 .bf16) (k v : FVec Ideal S1x1024x32x128 .bf16)
  (u : FVec Ideal S4096x1024 .bf16)

/-- The operands by their coordinates. -/
def X (i t : Fin 1024) : EReal := x (ix3 (0 : Fin 1) i t)
def Wq (t : Fin 1024) (e : Fin 4096) : EReal := w (ix2 t e)
def K (j : Fin 1024) (h : Fin 32) (d : Fin 128) : EReal := k (ix4 (0 : Fin 1) j h d)
def Wo (e : Fin 4096) (o : Fin 1024) : EReal := u (ix2 e o)

/-- Two positions' word. -/
abbrev word (i j : Fin 1024) : BitVec 1 :=
  IntOp.cmpi .sle (IntOp.absi (IntOp.subi (BitVec.ofNat 32 i.val) (BitVec.ofNat 32 j.val))) 128#32

theorem word_iff (i j : Fin 1024) : word i j = 1#1 ↔ near i.val j.val :=
  KernelIdeal.Ring.near_word _ _ (by omega) (by omega)

/-- Every query reaches a key: its own. -/
theorem any_word (i : Fin 1024) : Finset.fold IntOp.ori (0#1) (fun j => word i j) Finset.univ = 1#1 :=
  (Routing.fold_ori _ _).2 ⟨i, Finset.mem_univ _, (word_iff i i).2 ⟨by omega, by omega⟩⟩

theorem select_one {α : Type} (a b : α) : Scalar.select (1#1) a b = a := rfl

/-- The score as the reference computes it. -/
theorem score_eq (i j : Fin 1024) (e : Fin 4096) :
    Scalar.select (word i j)
      ((∑ d : Fin 128, (∑ t : Fin 1024, X x i t * Wq w t (⟨e.val / 128 * 128 + d.val, by omega⟩ : Fin 4096))
        * K k j (⟨e.val / 128, by omega⟩ : Fin 32) d) * scale) ⊥
      = score (X x) (Wq w) (K k) ⟨e.val / 128, by omega⟩ i j := by
  unfold Scalar.select score
  refine if_congr (word_iff i j) ?_ rfl
  refine congrArg (· * scale) (Finset.sum_congr rfl fun d _ => ?_)
  refine congrArg (· * K k j ⟨e.val / 128, by omega⟩ d) (Finset.sum_congr rfl fun t _ => ?_)
  exact congrArg (fun z => X x i t * Wq w t z) (Fin.ext (by show e.val / 128 * 128 + d.val = 128 * (e.val / 128) + d.val; omega))

theorem X_eq (i t : Fin 1024) : x (ix3 (0 : Fin 1) i t) = X x i t := rfl
theorem Wq_eq (t : Fin 1024) (e : Fin 4096) : w (ix2 t e) = Wq w t e := rfl
theorem K_eq (j : Fin 1024) (h : Fin 32) (d : Fin 128) : k (ix4 (0 : Fin 1) j h d) = K k j h d := rfl
theorem Wo_eq (e : Fin 4096) (o : Fin 1024) : u (ix2 e o) = Wo u e o := rfl
theorem fill_eq : id (constant (F := Ideal) S_ .f32 0xFF800000#32) ix0 = ⊥ := KernelIdeal.Ring.neg_inf
theorem scale_eq : Ideal.ofBits .f32 0x3DB504F3#32 = scale := rfl

variable (m : (ℓ : Loc nD τ sig) → Buf (Elt Ideal) ℓ) (c : Dev nD)

set_option maxRecDepth 32768 in
set_option maxHeartbeats 2000000 in
/-- The result is the attention's output. -/
theorem result_apply (hx : m ((c.tc : Thread nD τ).loc main_arg0) = x) (hw : m ((c.tc : Thread nD τ).loc main_arg1) = w)
    (hk : m ((c.tc : Thread nD τ).loc main_arg2) = k) (hv : m ((c.tc : Thread nD τ).loc main_arg3) = v)
    (hu : m ((c.tc : Thread nD τ).loc main_arg4) = u) (i o : Fin 1024) :
    res_main_v44 (F := Ideal) m c (ix3 (0 : Fin 1) i o) = output (X x) (Wq w) (K k) (K v) (Wo u) i o := by
  unfold res_main_v44
  rw [hx, hw, hk, hv, hu]
  clean_types
  pointwise [output]
  simp only [any_word, select_one, fill_eq, scale_eq, KernelIdeal.Ring.neg_inf, X_eq, Wq_eq, K_eq, Wo_eq]
  simp only [score_eq]
  refine Finset.sum_congr rfl fun e _ => congrArg (· * Wo u e o) ?_
  unfold context soft
  refine Finset.sum_congr rfl fun j _ => ?_
  rw [mul_comm]

end

end Cert.ReferenceIdeal.Value
-- ==== Proof.Value.lean ====
/-
  On finite operands every device ends with the reference's result.
-/
module

public import proofs.«01_k».proof.Defs
public import proofs.«01_k».proof.Proof.Operands
public import proofs.«01_k».proof.Proof.RefValue
public import Idealize.ShloMosaic.Lib.LayoutAt

@[expose] public section

noncomputable section

namespace Cert.KernelIdeal.Ring

open Cert.KernelIdeal Cert.KernelIdeal.Gen Cert.Attn

open Idealize.ShloMosaic
open Idealize.ShloMosaic.TcCoe

/-! ## The devices' parts add up to the attention's output -/

section
variable (I : Ins Ideal) (X : Fin 1024 → Fin 1024 → EReal) (W : Fin 1024 → Fin 4096 → EReal)
  (K V : Fin 1024 → Fin 32 → Fin 128 → EReal) (U : Fin 4096 → Fin 1024 → EReal)

variable {I X W K V U}

/-- One device's score is the score of the head that it stands for. -/
theorem kscore_eq (hx : ∀ c i t, I.x c (ix2 i t) = X i t)
    (hw : ∀ (c : Fin 4) (t e : Fin 1024), I.wq c (ix2 t e) = W t ⟨1024 * c.val + e.val, by omega⟩)
    (hk : ∀ (c : Fin 4) (j : Fin 1024) (h : Fin 8) (d : Fin 128),
      I.k c (ix2 j (⟨128 * h.val + d.val, by omega⟩ : Fin 1024)) = K j ⟨8 * c.val + h.val, by omega⟩ d)
    (c b : Fin 4) (h : Fin 8) (r : Fin 256) (p : Fin 512) :
    kscore I c b h r p = score X W K ⟨8 * c.val + h.val, by omega⟩ ⟨256 * b.val + r.val, by omega⟩
      ⟨min 512 (256 * b.val - 128) + p.val, by omega⟩ := by
  unfold kscore score query
  refine if_congr Iff.rfl (congrArg (· * scale) (Finset.sum_congr rfl fun d _ => ?_)) rfl
  rw [hk]
  refine congrArg (· * K _ _ d) (Finset.sum_congr rfl fun t _ => ?_)
  rw [hx, hw]
  exact congrArg (fun z => X _ t * W t z) (Fin.ext (by
    show 1024 * c.val + (128 * h.val + d.val) = 128 * (8 * c.val + h.val) + d.val; omega))

theorem finalOut_eq (hx : ∀ c i t, I.x c (ix2 i t) = X i t)
    (hw : ∀ (c : Fin 4) (t e : Fin 1024), I.wq c (ix2 t e) = W t ⟨1024 * c.val + e.val, by omega⟩)
    (hk : ∀ (c : Fin 4) (j : Fin 1024) (h : Fin 8) (d : Fin 128),
      I.k c (ix2 j (⟨128 * h.val + d.val, by omega⟩ : Fin 1024)) = K j ⟨8 * c.val + h.val, by omega⟩ d)
    (hv : ∀ (c : Fin 4) (j : Fin 1024) (h : Fin 8) (d : Fin 128),
      I.v c (ix2 j (⟨128 * h.val + d.val, by omega⟩ : Fin 1024)) = V j ⟨8 * c.val + h.val, by omega⟩ d)
    (hu : ∀ (c : Fin 4) (e o : Fin 1024), I.wo c (ix2 e o) = U ⟨1024 * c.val + e.val, by omega⟩ o)
    (fX : ∀ i t, Fin' (X i t)) (fW : ∀ t e, Fin' (W t e)) (fK : ∀ j h d, Fin' (K j h d)) (i o : Fin 1024) :
    finalOut I (ix3 0 i o) = output X W K V U i o := by
  rw [finalOut_apply]
  unfold output
  rw [sum_blocks]
  refine Finset.sum_congr rfl fun (c : Fin 4) _ => ?_
  rw [accBlk_apply]
  refine Finset.sum_congr rfl fun e _ => ?_
  rw [hu]
  refine congrArg (· * U _ o) ?_
  have hi : i = ⟨256 * (⟨i.val / 256, by omega⟩ : Fin 4).val + (⟨i.val % 256, Nat.mod_lt _ (by decide)⟩ : Fin 256).val, by
      show 256 * (i.val / 256) + i.val % 256 < 1024; omega⟩ := Fin.ext (by show i.val = 256 * (i.val / 256) + i.val % 256; omega)
  have hh : (⟨8 * c.val + (⟨e.val / 128, by omega⟩ : Fin 8).val, by show 8 * c.val + e.val / 128 < 32; omega⟩ : Fin 32)
      = ⟨(1024 * c.val + e.val) / 128, by omega⟩ := Fin.ext (by show 8 * c.val + e.val / 128 = (1024 * c.val + e.val) / 128; omega)
  have hd : (⟨e.val % 128, Nat.mod_lt _ (by decide)⟩ : Fin 128) = ⟨(1024 * c.val + e.val) % 128, Nat.mod_lt _ (by decide)⟩ :=
    Fin.ext (by show e.val % 128 = (1024 * c.val + e.val) % 128; omega)
  have he : e = ⟨128 * (⟨e.val / 128, by omega⟩ : Fin 8).val + (⟨e.val % 128, Nat.mod_lt _ (by decide)⟩ : Fin 128).val, by
      show 128 * (e.val / 128) + e.val % 128 < 1024; omega⟩ := Fin.ext (by show e.val = 128 * (e.val / 128) + e.val % 128; omega)
  refine Eq.trans ?_ ((context_window V fX fW fK ⟨i.val / 256, by omega⟩ ⟨i.val % 256, Nat.mod_lt _ (by decide)⟩ _).symm.trans
    (congrArg (fun z => context X W K V z _) hi.symm))
  refine congrArg₂ soft (funext fun p => ?_) (funext fun p => ?_)
  · rw [kscore_eq hx hw hk]
    exact congrArg (fun z => score X W K z _ _) hh
  · refine (congrArg (fun z => I.v c (ix2 _ z)) he).trans ((hv c _ _ _).trans ?_)
    exact congrArg₂ (V _) hh hd

end

/-! ## The operands -/

/-- A word of comparison says that a number is finite. -/
theorem fin_of_word {x : EReal} (h : Ideal.cmp .olt (max x (-x)) (Ideal.ofBits .bf16 0x7F80#16) = 1#1) : Fin' x := by
  have ht : Ideal.ofBits .bf16 0x7F80#16 = ⊤ := by simp [Ideal.ofBits, Ideal.ieee]
  rw [ht] at h
  have hlt : max x (-x) < ⊤ := by
    by_contra hn
    have : Ideal.cmp .olt (max x (-x)) ⊤ = BitVec.ofBool (decide (max x (-x) < ⊤)) := rfl
    rw [this, decide_eq_false hn] at h
    exact absurd h (by decide)
  constructor
  · rintro rfl; exact absurd hlt (by simp)
  · rintro rfl; exact absurd hlt (by simp)

section
variable (m : (ℓ : Loc nD τ sig) → Buf (Elt Ideal) ℓ)

variable [Cert.Pre_finite_KernelIdeal.Facts]

theorem pre_x (h : Pre_KernelIdeal_finite_KernelIdeal m) (c : Dev nD) (i t : Fin 1024) :
    Fin' (m ((c.tc : Thread nD τ).loc main_arg0) (ix3 (0 : Fin 1) i t)) :=
  fin_of_word (congrFun (h c).1 (ix3 (0 : Fin 1) i t))

theorem pre_wq (h : Pre_KernelIdeal_finite_KernelIdeal m) (c : Dev nD) (t : Fin 1024) (e : Fin 4096) :
    Fin' (m ((c.tc : Thread nD τ).loc main_arg1) (ix2 t e)) :=
  fin_of_word (congrFun (h c).2.1 (ix2 t e))

theorem pre_k (h : Pre_KernelIdeal_finite_KernelIdeal m) (c : Dev nD) (j : Fin 1024) (g : Fin 8) (d : Fin 128) :
    Fin' (m ((c.tc : Thread nD τ).loc main_arg2) (ix4 (0 : Fin 1) j g d)) :=
  fin_of_word (congrFun (h c).2.2 (ix4 (0 : Fin 1) j g d))

/-- A device's heads of an array of all heads. -/
theorem block_heads (v : (⟨4, ![1, 1024, 32, 128]⟩ : Shape).Idx → EReal) (c : Fin 4) (j : Fin 1024) (h : Fin 8) (d : Fin 128) :
    Layout.block ⟨4, ![1, 1024, 8, 128]⟩ ⟨4, ![1, 1024, 32, 128]⟩ 2 4 c v (by decide) (ix4 (0 : Fin 1) j h d)
      = v (ix4 (0 : Fin 1) j (⟨8 * c.val + h.val, by omega⟩ : Fin 32) d) := by
  rw [Layout.block_apply]
  refine congrArg v (funext fun a => Fin.ext ?_)
  rw [Layout.Tiles.idx_val]
  match a with
  | 0 => rfl
  | 1 => rfl
  | 2 => show c.val * 8 + h.val = 8 * c.val + h.val; omega
  | 3 => rfl

/-- A column of a device's reshaped heads. -/
theorem head_col {v : S1x1024x8x128.Idx → EReal} (j : Fin 1024) (h : Fin 8) (d : Fin 128) (e : Fin 1024) (he : e.val = 128 * h.val + d.val) :
    v (ix4 (0 : Fin 1) j (⟨e.val / 128, by omega⟩ : Fin 8) (⟨e.val % 128, Nat.mod_lt _ (by decide)⟩ : Fin 128))
      = v (ix4 (0 : Fin 1) j h d) := by
  have e1 : (⟨e.val / 128, by omega⟩ : Fin 8) = h := Fin.ext (by show e.val / 128 = h.val; omega)
  have e2 : (⟨e.val % 128, Nat.mod_lt _ (by decide)⟩ : Fin 128) = d := Fin.ext (by show e.val % 128 = d.val; omega)
  rw [e1, e2]

/-- On finite operands that are the reference's, cut by heads, every device ends with the reference's result. -/
theorem result_eq (m' : (ℓ : Loc Cert.ReferenceIdeal.nD Cert.ReferenceIdeal.τ Cert.ReferenceIdeal.sig) → Buf (Elt Ideal) ℓ)
    (hpre : Pre_KernelIdeal_finite_KernelIdeal m)
    (x : FVec Ideal S1x1024x1024 .bf16) (w : FVec Ideal S1024x4096 .bf16)
    (k v : FVec Ideal Cert.ReferenceIdeal.S1x1024x32x128 .bf16) (u : FVec Ideal S4096x1024 .bf16)
    (hx' : m' (((0 : Dev Cert.ReferenceIdeal.nD).tc : Thread Cert.ReferenceIdeal.nD Cert.ReferenceIdeal.τ).loc Cert.ReferenceIdeal.main_arg0) = x)
    (hw' : m' (((0 : Dev Cert.ReferenceIdeal.nD).tc : Thread Cert.ReferenceIdeal.nD Cert.ReferenceIdeal.τ).loc Cert.ReferenceIdeal.main_arg1) = w)
    (hk' : m' (((0 : Dev Cert.ReferenceIdeal.nD).tc : Thread Cert.ReferenceIdeal.nD Cert.ReferenceIdeal.τ).loc Cert.ReferenceIdeal.main_arg2) = k)
    (hv' : m' (((0 : Dev Cert.ReferenceIdeal.nD).tc : Thread Cert.ReferenceIdeal.nD Cert.ReferenceIdeal.τ).loc Cert.ReferenceIdeal.main_arg3) = v)
    (hu' : m' (((0 : Dev Cert.ReferenceIdeal.nD).tc : Thread Cert.ReferenceIdeal.nD Cert.ReferenceIdeal.τ).loc Cert.ReferenceIdeal.main_arg4) = u)
    (hx : ∀ c : Dev nD, m ((c.tc : Thread nD τ).loc main_arg0) = x)
    (hw : ∀ c : Dev nD, m ((c.tc : Thread nD τ).loc main_arg1) = w)
    (hk : ∀ c : Dev nD, m ((c.tc : Thread nD τ).loc main_arg2) = Layout.block ⟨4, ![1, 1024, 8, 128]⟩ ⟨4, ![1, 1024, 32, 128]⟩ 2 4 c k (by decide))
    (hv : ∀ c : Dev nD, m ((c.tc : Thread nD τ).loc main_arg3) = Layout.block ⟨4, ![1, 1024, 8, 128]⟩ ⟨4, ![1, 1024, 32, 128]⟩ 2 4 c v (by decide))
    (hu : ∀ c : Dev nD, m ((c.tc : Thread nD τ).loc main_arg4) = u) :
    finalOut (ins m) = Cert.ReferenceIdeal.Value.res_out0 (F := Ideal) m' 0 := by
  have kcol : ∀ (c : Fin 4) (j : Fin 1024) (h : Fin 8) (d : Fin 128), (ins m).k c (ix2 j (⟨128 * h.val + d.val, by omega⟩ : Fin 1024))
      = m (((show Dev nD from c).tc : Thread nD τ).loc main_arg2) (ix4 (0 : Fin 1) j h d) := fun c j h d =>
    (ins_k m c j _).trans (head_col j h d (⟨128 * h.val + d.val, by omega⟩ : Fin 1024) rfl)
  have vcol : ∀ (c : Fin 4) (j : Fin 1024) (h : Fin 8) (d : Fin 128), (ins m).v c (ix2 j (⟨128 * h.val + d.val, by omega⟩ : Fin 1024))
      = m (((show Dev nD from c).tc : Thread nD τ).loc main_arg3) (ix4 (0 : Fin 1) j h d) := fun c j h d =>
    (ins_v m c j _).trans (head_col j h d (⟨128 * h.val + d.val, by omega⟩ : Fin 1024) rfl)
  have kblk : ∀ (c : Fin 4) (j : Fin 1024) (h : Fin 8) (d : Fin 128), m (((show Dev nD from c).tc : Thread nD τ).loc main_arg2) (ix4 (0 : Fin 1) j h d)
      = k (ix4 (0 : Fin 1) j (⟨8 * c.val + h.val, by omega⟩ : Fin 32) d) := fun c j h d =>
    (congrFun (hk c) _).trans (block_heads k c j h d)
  have vblk : ∀ (c : Fin 4) (j : Fin 1024) (h : Fin 8) (d : Fin 128), m (((show Dev nD from c).tc : Thread nD τ).loc main_arg3) (ix4 (0 : Fin 1) j h d)
      = v (ix4 (0 : Fin 1) j (⟨8 * c.val + h.val, by omega⟩ : Fin 32) d) := fun c j h d =>
    (congrFun (hv c) _).trans (block_heads v c j h d)
  have fx : ∀ i t, Fin' (Cert.ReferenceIdeal.Value.X x i t) := fun i t =>
    Eq.mp (congrArg Fin' (congrFun (hx 0) (ix3 (0 : Fin 1) i t))) (pre_x m hpre 0 i t)
  have fw : ∀ t e, Fin' (Cert.ReferenceIdeal.Value.Wq w t e) := fun t e =>
    Eq.mp (congrArg Fin' (congrFun (hw 0) (ix2 t e))) (pre_wq m hpre 0 t e)
  have fk : ∀ j h d, Fin' (Cert.ReferenceIdeal.Value.K k j h d) := fun j h d => by
    have e : (⟨8 * (⟨h.val / 8, by omega⟩ : Fin 4).val + (⟨h.val % 8, Nat.mod_lt _ (by decide)⟩ : Fin 8).val, by
        show 8 * (h.val / 8) + h.val % 8 < 32; omega⟩ : Fin 32) = h := Fin.ext (by show 8 * (h.val / 8) + h.val % 8 = h.val; omega)
    have := Eq.mp (congrArg Fin' (kblk ⟨h.val / 8, by omega⟩ j ⟨h.val % 8, Nat.mod_lt _ (by decide)⟩ d)) (pre_k m hpre _ j _ d)
    rw [e] at this
    exact this
  have key : ∀ i o : Fin 1024, finalOut (ins m) (ix3 (0 : Fin 1) i o)
      = Cert.ReferenceIdeal.Value.res_out0 (F := Ideal) m' 0 (ix3 (0 : Fin 1) i o) := fun i o =>
    (finalOut_eq (I := ins m) (X := Cert.ReferenceIdeal.Value.X x) (W := Cert.ReferenceIdeal.Value.Wq w)
      (K := Cert.ReferenceIdeal.Value.K k) (V := Cert.ReferenceIdeal.Value.K v) (U := Cert.ReferenceIdeal.Value.Wo u)
      (fun c i t => (ins_x m c i t).trans (congrFun (hx c) _)) (fun c t e => (ins_wq m c t e).trans (congrFun (hw c) _))
      (fun c j h d => (kcol c j h d).trans (kblk c j h d)) (fun c j h d => (vcol c j h d).trans (vblk c j h d))
      (fun c e o => (ins_wo m c e o).trans (congrFun (hu c) _)) fx fw fk i o).trans
    (Cert.ReferenceIdeal.Value.result_apply x w k v u m' 0 hx' hw' hk' hv' hu' i o).symm
  funext j
  have hj : j = ix3 (0 : Fin 1) (j 1) (j 2) := funext fun a => by
    match a with
    | 0 => exact Subsingleton.elim (α := Fin 1) _ _
    | 1 => rfl
    | 2 => rfl
  rw [hj]
  exact key (j 1) (j 2)

end

end Cert.KernelIdeal.Ring
-- ==== Proof.lean ====
/-
  The proof of the certificate's claim: the frames of the kernel, of its ideal reading and of the reference, the named constant,
  and the value of the kernel's result at the ideal instance.
-/
module

public import proofs.«01_k».proof.Defs
public import proofs.«01_k».proof.Proof.Launch
public import proofs.«01_k».proof.Proof.Plain.Launch
public import proofs.«01_k».proof.Proof.Gen.ReferenceIdeal
public import proofs.«01_k».proof.Proof.Gen.ReferenceIdeal.Run
public import proofs.«01_k».proof.Proof.Value

@[expose] public section

noncomputable section

namespace Cert.Proof

open Idealize.ShloMosaic Idealize.SL.Sem

/-- The kernel as it is. -/
theorem frame_kernel : Cert.quiescent_Kernel := fun m g _ =>
  (θ_run Cert.Kernel.defs _ _).mono (fun _ h => ⟨fun c => (h.1 c).2, h.2⟩) (Cert.Kernel.Ring.run_main (F := Bits) m g)

/-- The kernel's ideal reading. -/
theorem frame_ideal : Cert.quiescent_KernelIdeal := fun m g _ =>
  (θ_run Cert.KernelIdeal.defs _ _).mono (fun _ h => ⟨fun c => (h.1 c).2, h.2⟩) (Cert.KernelIdeal.Ring.run_main (F := Ideal) m g)

/-- The reference. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The mask's constant stands for −∞. -/
theorem preserves : Cert.preserves_Kernel_KernelIdeal :=
  IdealRules.named_const.statement Cert.KernelIdeal.κ "mask" .f32 0xCE6E6B28#32 ⊥ rfl

/-- The precondition's shapes. -/
theorem pre_facts_kernel : Cert.Pre_finite_KernelIdeal.Facts := ⟨(by decide), (by decide), (by decide)⟩
theorem pre_facts_reference : Cert.Pre_finite_ReferenceIdeal.Facts := ⟨(by decide), (by decide), (by decide)⟩

/-- Every device ends with the reference's result. -/
theorem algebraic : Cert.algebraic_KernelIdeal_ReferenceIdeal_pre_finite_KernelIdeal (hPre_finite_KernelIdeal := pre_facts_kernel) :=
  fun m g m' g' hpre hagree =>
  ⟨Cert.ReferenceIdeal.Value.res_out0 (F := Ideal) m' 0,
    (θ_run Cert.KernelIdeal.defs _ _).mono (fun _ h c => ⟨(h.1 c).1.trans
        (letI := pre_facts_kernel
        Cert.KernelIdeal.Ring.result_eq m m' hpre _ _ _ _ _ rfl rfl rfl rfl rfl (fun c => (hagree c).1) (fun c => (hagree c).2.1)
          (fun c => (hagree c).2.2.1) (fun c => (hagree c).2.2.2.1) (fun c => (hagree c).2.2.2.2)), (h.1 c).2⟩)
      (Cert.KernelIdeal.Ring.run_main (F := Ideal) m g),
    (θ_run Cert.ReferenceIdeal.defs _ _).mono (fun _ h => h 0) (Cert.ReferenceIdeal.Value.run (F := Ideal) m' g')⟩

/-- On finite operands too. -/
theorem frame_ideal_pre :
    Cert.quiescent_KernelIdeal_pre_finite_KernelIdeal (hPre_finite_KernelIdeal := pre_facts_kernel) := fun m g _ =>
  frame_ideal m g trivial
theorem frame_reference_pre :
    Cert.quiescent_ReferenceIdeal_pre_finite_ReferenceIdeal (hPre_finite_ReferenceIdeal := pre_facts_reference) := fun m g _ =>
  frame_reference m g trivial

theorem claim : Cert.Claim := ⟨Cert.Kernel.Gen.facts, Cert.KernelIdeal.Gen.facts, Cert.ReferenceIdeal.Gen.facts,
  pre_facts_kernel, pre_facts_reference, frame_kernel, frame_ideal, frame_ideal_pre, frame_reference, frame_reference_pre, preserves, algebraic⟩

end Cert.Proof

end
